-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v9_2)) (v2 : (c : Dev Cert.KernelIdeal.nD) → Buf (Elt Ideal) ((c.tc : Thread Cert.KernelIdeal.nD Cert.KernelIdeal.τ).loc Cert.KernelIdeal.main_v9_3)) (v3 : (c : Dev Cert.KernelIdeal.nD) → Buf (Elt Ideal) ((c.tc : Thread Cert.KernelIdeal.nD Cert.KernelIdeal.τ).loc Cert.KernelIdeal.main_v15)) (v4 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v9_2) = v1 c
          ∧ r.2.mem ((c.tc : Thread Cert.KernelIdeal.nD Cert.KernelIdeal.τ).loc Cert.KernelIdeal.main_v9_3) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_v16) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x4096x7168 : Shape := ⟨3, ![3, 4096, 7168]⟩
abbrev S3x4096 : Shape := ⟨2, ![3, 4096]⟩
abbrev S3x4096x18432 : Shape := ⟨3, ![3, 4096, 18432]⟩
abbrev S7168x18432 : Shape := ⟨2, ![7168, 18432]⟩
abbrev S18432 : Shape := ⟨1, ![18432]⟩
abbrev S7168x32 : Shape := ⟨2, ![7168, 32]⟩
abbrev S32x18432 : Shape := ⟨2, ![32, 18432]⟩
abbrev S_ : Shape := ⟨0, ![]⟩

class Facts : Prop where
  natLt_8_32 : 8 < 32
  bcast_S_S3x4096x7168 : S_.BroadcastsInDim S3x4096x7168 (![] : Fin 0 → Fin S3x4096x7168.rank)
  bcast_S_S3x4096 : S_.BroadcastsInDim S3x4096 (![] : Fin 0 → Fin S3x4096.rank)
  bcast_S_S3x4096x18432 : S_.BroadcastsInDim S3x4096x18432 (![] : Fin 0 → Fin S3x4096x18432.rank)
  bcast_S_S7168x32 : S_.BroadcastsInDim S7168x32 (![] : Fin 0 → Fin S7168x32.rank)
  bcast_S_S32x18432 : S_.BroadcastsInDim S32x18432 (![] : Fin 0 → Fin S32x18432.rank)

variable [Facts]

def fn_part1 {F : FTy → Type} [FloatOps F] (main_arg7 : FVec F S32x18432 .bf16) (main_v4 : IVec S3x4096x7168 1) (main_v7 : IVec S3x4096 1) (main_v12 : IVec S3x4096x18432 1) (main_v15 : IVec S3x4096 1) (main_v16 : FVec F S7168x32 .bf16) (main_cst_4 : FVec F S_ .bf16) : IVec S3x4096x7168 1 × IVec S3x4096 1 × IVec S3x4096x18432 1 × IVec S3x4096 1 × IVec S7168x32 1 × IVec S32x18432 1 :=
  let main_v17 : FVec F S7168x32 .bf16 := broadcastInDim S7168x32 ![] bcast_S_S7168x32 main_cst_4
  let main_v18 : IVec S7168x32 1 := cmpf .olt main_v16 main_v17
  let main_v19 : FVec F S32x18432 .bf16 := Host.absf main_arg7
  let main_cst_5 : FVec F S_ .bf16 := constant S_ .bf16 0x7F80#16
  let main_v20 : FVec F S32x18432 .bf16 := broadcastInDim S32x18432 ![] bcast_S_S32x18432 main_cst_5
  let main_v21 : IVec S32x18432 1 := cmpf .olt main_v19 main_v20
  (main_v4, main_v7, main_v12, main_v15, main_v18, main_v21)

def fn {F : FTy → Type} [FloatOps F] (main_arg0 : IVec S3x4096x7168 8) (main_arg1 : FVec F S3x4096 .f32) (main_arg2 : IVec S3x4096x18432 8) (main_arg3 : FVec F S3x4096 .f32) (main_arg4 : FVec F S7168x18432 .fp8e4m3) (main_arg5 : FVec F S18432 .f32) (main_arg6 : FVec F S7168x32 .bf16) (main_arg7 : FVec F S32x18432 .bf16) : IVec S3x4096x7168 1 × IVec S3x4096 1 × IVec S3x4096x18432 1 × IVec S3x4096 1 × IVec S7168x32 1 × IVec S32x18432 1 :=
  let main_v0 : IVec S3x4096x7168 32 := (extui 32 · natLt_8_32) main_arg0
  let main_c : IVec S_ 32 := constantI S_ 32 127#32
  let main_v1 : IVec S3x4096x7168 32 := broadcastInDim S3x4096x7168 ![] bcast_S_S3x4096x7168 main_c
  let main_v2 : IVec S3x4096x7168 32 := andi main_v0 main_v1
  let main_c_0 : IVec S_ 32 := constantI S_ 32 127#32
  let main_v3 : IVec S3x4096x7168 32 := broadcastInDim S3x4096x7168 ![] bcast_S_S3x4096x7168 main_c_0
  let main_v4 : IVec S3x4096x7168 1 := cmpi .ne main_v2 main_v3
  let main_v5 : FVec F S3x4096 .f32 := Host.absf main_arg1
  let main_cst : FVec F S_ .f32 := constant S_ .f32 0x7F800000#32
  let main_v6 : FVec F S3x4096 .f32 := broadcastInDim S3x4096 ![] bcast_S_S3x4096 main_cst
  let main_v7 : IVec S3x4096 1 := cmpf .olt main_v5 main_v6
  let main_v8 : IVec S3x4096x18432 32 := (extui 32 · natLt_8_32) main_arg2
  let main_c_1 : IVec S_ 32 := constantI S_ 32 124#32
  let main_v9 : IVec S3x4096x18432 32 := broadcastInDim S3x4096x18432 ![] bcast_S_S3x4096x18432 main_c_1
  let main_v10 : IVec S3x4096x18432 32 := andi main_v8 main_v9
  let main_c_2 : IVec S_ 32 := constantI S_ 32 124#32
  let main_v11 : IVec S3x4096x18432 32 := broadcastInDim S3x4096x18432 ![] bcast_S_S3x4096x18432 main_c_2
  let main_v12 : IVec S3x4096x18432 1 := cmpi .ne main_v10 main_v11
  let main_v13 : FVec F S3x4096 .f32 := Host.absf main_arg3
  let main_cst_3 : FVec F S_ .f32 := constant S_ .f32 0x7F800000#32
  let main_v14 : FVec F S3x4096 .f32 := broadcastInDim S3x4096 ![] bcast_S_S3x4096 main_cst_3
  let main_v15 : IVec S3x4096 1 := cmpf .olt main_v13 main_v14
  let main_v16 : FVec F S7168x32 .bf16 := Host.absf main_arg6
  let main_cst_4 : FVec F S_ .bf16 := constant S_ .bf16 0x7F80#16
  fn_part1 (F := F) main_arg7 main_v4 main_v7 main_v12 main_v15 main_v16 main_cst_4
-- ==== Kernel.lean ====
abbrev S3x4096x7168 : Shape := ⟨3, ![3, 4096, 7168]⟩
abbrev S3x4096 : Shape := ⟨2, ![3, 4096]⟩
abbrev S3x4096x18432 : Shape := ⟨3, ![3, 4096, 18432]⟩
abbrev S7168x18432 : Shape := ⟨2, ![7168, 18432]⟩
abbrev S18432 : Shape := ⟨1, ![18432]⟩
abbrev S7168x32 : Shape := ⟨2, ![7168, 32]⟩
abbrev S32x18432 : Shape := ⟨2, ![32, 18432]⟩
abbrev S12288x7168 : Shape := ⟨2, ![12288, 7168]⟩
abbrev S12288x18432 : Shape := ⟨2, ![12288, 18432]⟩
abbrev S12288 : Shape := ⟨1, ![12288]⟩
abbrev S32x7168 : Shape := ⟨2, ![32, 7168]⟩
abbrev S48x1x256 : Shape := ⟨3, ![48, 1, 256]⟩
abbrev S12288x32 : Shape := ⟨2, ![12288, 32]⟩
abbrev S1x1x256 : Shape := ⟨3, ![1, 1, 256]⟩
abbrev S256x18432 : Shape := ⟨2, ![256, 18432]⟩
abbrev S256x7168 : Shape := ⟨2, ![256, 7168]⟩
abbrev S256x32 : Shape := ⟨2, ![256, 32]⟩
abbrev S1x256 : Shape := ⟨2, ![1, 256]⟩
abbrev S32x256 : Shape := ⟨2, ![32, 256]⟩
abbrev S96x256 : Shape := ⟨2, ![96, 256]⟩
abbrev S32x1024 : Shape := ⟨2, ![32, 1024]⟩
abbrev S256x1024 : Shape := ⟨2, ![256, 1024]⟩
abbrev S96x1024 : Shape := ⟨2, ![96, 1024]⟩
abbrev S12288x1 : Shape := ⟨2, ![12288, 1]⟩
abbrev S1x18432 : Shape := ⟨2, ![1, 18432]⟩
abbrev S1024x1 : Shape := ⟨2, ![1024, 1]⟩
abbrev S1x2048 : Shape := ⟨2, ![1, 2048]⟩
abbrev S1024x32 : Shape := ⟨2, ![1024, 32]⟩
abbrev S1024x2048 : Shape := ⟨2, ![1024, 2048]⟩
abbrev S1024x1024 : Shape := ⟨2, ![1024, 1024]⟩
abbrev S1024x96 : Shape := ⟨2, ![1024, 96]⟩
abbrev S3x4096x32 : Shape := ⟨3, ![3, 4096, 32]⟩

abbrev nBuf : Space → Nat
  | .hbm => 28
  | .vmem => 33
  | .smem => 0
  | _ => 0

abbrev bufTy : (tb : Table) → Fin (tcTables nBuf tb) → BufTy
  | .hbm, ⟨0, _⟩ => ⟨S3x4096x7168, .i8⟩
  | .hbm, ⟨1, _⟩ => ⟨S3x4096, .f32⟩
  | .hbm, ⟨2, _⟩ => ⟨S3x4096x18432, .i8⟩
  | .hbm, ⟨3, _⟩ => ⟨S3x4096, .f32⟩
  | .hbm, ⟨4, _⟩ => ⟨S7168x18432, .fp8e4m3⟩
  | .hbm, ⟨5, _⟩ => ⟨S18432, .f32⟩
  | .hbm, ⟨6, _⟩ => ⟨S7168x32, .bf16⟩
  | .hbm, ⟨7, _⟩ => ⟨S32x18432, .bf16⟩
  | .hbm, ⟨8, _⟩ => ⟨S3x4096x7168, .fp8e4m3⟩
  | .hbm, ⟨9, _⟩ => ⟨S3x4096x18432, .fp8e5m2⟩
  | .hbm, ⟨10, _⟩ => ⟨S12288x7168, .fp8e4m3⟩
  | .hbm, ⟨11, _⟩ => ⟨S12288x18432, .fp8e5m2⟩
  | .hbm, ⟨12, _⟩ => ⟨S12288, .f32⟩
  | .hbm, ⟨13, _⟩ => ⟨S12288, .f32⟩
  | .hbm, ⟨14, _⟩ => ⟨S32x7168, .bf16⟩
  | .hbm, ⟨15, _⟩ => ⟨S48x1x256, .f32⟩
  | .hbm, ⟨16, _⟩ => ⟨S48x1x256, .f32⟩
  | .hbm, ⟨17, _⟩ => ⟨S12288x32, .f32⟩
  | .hbm, ⟨18, _⟩ => ⟨S12288x32, .f32⟩
  | .hbm, ⟨19, _⟩ => ⟨S7168x32, .f32⟩
  | .hbm, ⟨20, _⟩ => ⟨S32x18432, .f32⟩
  | .hbm, ⟨21, _⟩ => ⟨S12288x1, .f32⟩
  | .hbm, ⟨22, _⟩ => ⟨S18432, .bf16⟩
  | .hbm, ⟨23, _⟩ => ⟨S1x18432, .bf16⟩
  | .hbm, ⟨24, _⟩ => ⟨S12288x7168, .bf16⟩
  | .hbm, ⟨25, _⟩ => ⟨S3x4096x7168, .bf16⟩
  | .hbm, ⟨26, _⟩ => ⟨S3x4096x32, .f32⟩
  | .hbm, ⟨27, _⟩ => ⟨S3x4096x32, .f32⟩
  | .local _ .vmem, ⟨0, _⟩ => ⟨S1x1x256, .f32⟩
  | .local _ .vmem, ⟨1, _⟩ => ⟨S1x1x256, .f32⟩
  | .local _ .vmem, ⟨2, _⟩ => ⟨S1x1x256, .f32⟩
  | .local _ .vmem, ⟨3, _⟩ => ⟨S1x1x256, .f32⟩
  | .local _ .vmem, ⟨4, _⟩ => ⟨S256x18432, .fp8e5m2⟩
  | .local _ .vmem, ⟨5, _⟩ => ⟨S256x18432, .fp8e5m2⟩
  | .local _ .vmem, ⟨6, _⟩ => ⟨S256x7168, .fp8e4m3⟩
  | .local _ .vmem, ⟨7, _⟩ => ⟨S256x7168, .fp8e4m3⟩
  | .local _ .vmem, ⟨8, _⟩ => ⟨S32x7168, .bf16⟩
  | .local _ .vmem, ⟨9, _⟩ => ⟨S32x18432, .bf16⟩
  | .local _ .vmem, ⟨10, _⟩ => ⟨S256x32, .f32⟩
  | .local _ .vmem, ⟨11, _⟩ => ⟨S256x32, .f32⟩
  | .local _ .vmem, ⟨12, _⟩ => ⟨S256x32, .f32⟩
  | .local _ .vmem, ⟨13, _⟩ => ⟨S256x32, .f32⟩
  | .local _ .vmem, ⟨14, _⟩ => ⟨S7168x32, .f32⟩
  | .local _ .vmem, ⟨15, _⟩ => ⟨S32x18432, .f32⟩
  | .local _ .vmem, ⟨16, _⟩ => ⟨S32x7168, .f32⟩
  | .local _ .vmem, ⟨17, _⟩ => ⟨S32x18432, .f32⟩
  | .local _ .vmem, ⟨18, _⟩ => ⟨S1024x1, .f32⟩
  | .local _ .vmem, ⟨19, _⟩ => ⟨S1024x1, .f32⟩
  | .local _ .vmem, ⟨20, _⟩ => ⟨S1x2048, .bf16⟩
  | .local _ .vmem, ⟨21, _⟩ => ⟨S1x2048, .bf16⟩
  | .local _ .vmem, ⟨22, _⟩ => ⟨S1024x32, .f32⟩
  | .local _ .vmem, ⟨23, _⟩ => ⟨S1024x32, .f32⟩
  | .local _ .vmem, ⟨24, _⟩ => ⟨S1024x2048, .fp8e5m2⟩
  | .local _ .vmem, ⟨25, _⟩ => ⟨S1024x2048, .fp8e5m2⟩
  | .local _ .vmem, ⟨26, _⟩ => ⟨S1024x2048, .fp8e4m3⟩
  | .local _ .vmem, ⟨27, _⟩ => ⟨S1024x2048, .fp8e4m3⟩
  | .local _ .vmem, ⟨28, _⟩ => ⟨S1024x32, .bf16⟩
  | .local _ .vmem, ⟨29, _⟩ => ⟨S1024x32, .bf16⟩
  | .local _ .vmem, ⟨30, _⟩ => ⟨S1024x1024, .bf16⟩
  | .local _ .vmem, ⟨31, _⟩ => ⟨S1024x1024, .bf16⟩
  | .local _ .vmem, ⟨32, _⟩ => ⟨S1024x1024, .f32⟩
  | _, _ => ⟨S3x4096x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29

abbrev nD : Nat := 1
abbrev τ : Topo := Topo.v7x

variable {F : FTy → Type} [FloatOps F]

abbrev grid0 : Pipeline.Grid := ⟨1, ![48], ![false]⟩

def k0_cond2 (i : grid0.Coords) : BitVec 1 :=
  let arg0 : BitVec 32 := BitVec.ofNat 32 (i 0).val
  let c47_i32 : BitVec 32 := 47#32
  let v369 : BitVec 1 := Scalar.cmpi .eq arg0 c47_i32
  let v370 : BitVec 32 := Scalar.extui v369
  let c0_i32_177 : BitVec 32 := 0#32
  let v371 : BitVec 1 := Scalar.cmpi .ne v370 c0_i32_177
  v371

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x18432 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x7168 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x18432 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S7168x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x18432 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨3, ![12, 7, 9], ![false, false, false]⟩

def k1_cond2 (i : grid1.Coords) : BitVec 1 :=
  let arg2 : BitVec 32 := BitVec.ofNat 32 (i 2).val
  let c8_i32 : BitVec 32 := 8#32
  let v17 : BitVec 1 := Scalar.cmpi .eq arg2 c8_i32
  let v18 : BitVec 32 := Scalar.extui v17
  let c0_i32_10 : BitVec 32 := 0#32
  let v19 : BitVec 1 := Scalar.cmpi .ne v18 c0_i32_10
  v19

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S1x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true]

abbrev stage1_2 : Fin 2 → Memref sig .tc .vmem S1024x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1024x2048 .fp8e5m2 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1024x2048 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, true]

abbrev stage1_5 : Fin 2 → Memref sig .tc .vmem S1024x32 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 2 → Memref sig .tc .vmem S1024x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]
-- ==== ReferenceIdeal.lean ====
abbrev S3x4096x7168 : Shape := ⟨3, ![3, 4096, 7168]⟩
abbrev S3x4096 : Shape := ⟨2, ![3, 4096]⟩
abbrev S3x4096x18432 : Shape := ⟨3, ![3, 4096, 18432]⟩
abbrev S7168x18432 : Shape := ⟨2, ![7168, 18432]⟩
abbrev S18432 : Shape := ⟨1, ![18432]⟩
abbrev S7168x32 : Shape := ⟨2, ![7168, 32]⟩
abbrev S32x18432 : Shape := ⟨2, ![32, 18432]⟩
abbrev S3x4096x32 : Shape := ⟨3, ![3, 4096, 32]⟩
abbrev S3x4096x1 : Shape := ⟨3, ![3, 4096, 1]⟩
abbrev S1x18432 : Shape := ⟨2, ![1, 18432]⟩

abbrev nBuf : Space → Nat
  | .hbm => 15
  | .vmem => 13
  | .smem => 0
  | _ => 0

abbrev bufTy : (tb : Table) → Fin (tcTables nBuf tb) → BufTy
  | .hbm, ⟨0, _⟩ => ⟨S3x4096x7168, .i8⟩
  | .hbm, ⟨1, _⟩ => ⟨S3x4096, .f32⟩
  | .hbm, ⟨2, _⟩ => ⟨S3x4096x18432, .i8⟩
  | .hbm, ⟨3, _⟩ => ⟨S3x4096, .f32⟩
  | .hbm, ⟨4, _⟩ => ⟨S7168x18432, .fp8e4m3⟩
  | .hbm, ⟨5, _⟩ => ⟨S18432, .f32⟩
  | .hbm, ⟨6, _⟩ => ⟨S7168x32, .bf16⟩
  | .hbm, ⟨7, _⟩ => ⟨S32x18432, .bf16⟩
  | .hbm, ⟨8, _⟩ => ⟨S3x4096x7168, .fp8e4m3⟩
  | .hbm, ⟨9, _⟩ => ⟨S3x4096x18432, .fp8e5m2⟩
  | .hbm, ⟨10, _⟩ => ⟨S3x4096x7168, .bf16⟩
  | .hbm, ⟨11, _⟩ => ⟨S7168x32, .f32⟩
  | .hbm, ⟨12, _⟩ => ⟨S32x18432, .f32⟩
  | .hbm, ⟨13, _⟩ => ⟨S3x4096x32, .f32⟩
  | .hbm, ⟨14, _⟩ => ⟨S3x4096x32, .f32⟩
  | .local _ .vmem, ⟨0, _⟩ => ⟨S3x4096x7168, .fp8e4m3⟩
  | .local _ .vmem, ⟨1, _⟩ => ⟨S3x4096, .f32⟩
  | .local _ .vmem, ⟨2, _⟩ => ⟨S3x4096x18432, .fp8e5m2⟩
  | .local _ .vmem, ⟨3, _⟩ => ⟨S3x4096, .f32⟩
  | .local _ .vmem, ⟨4, _⟩ => ⟨S7168x18432, .fp8e4m3⟩
  | .local _ .vmem, ⟨5, _⟩ => ⟨S18432, .f32⟩
  | .local _ .vmem, ⟨6, _⟩ => ⟨S7168x32, .bf16⟩
  | .local _ .vmem, ⟨7, _⟩ => ⟨S32x18432, .bf16⟩
  | .local _ .vmem, ⟨8, _⟩ => ⟨S3x4096x7168, .bf16⟩
  | .local _ .vmem, ⟨9, _⟩ => ⟨S7168x32, .f32⟩
  | .local _ .vmem, ⟨10, _⟩ => ⟨S32x18432, .f32⟩
  | .local _ .vmem, ⟨11, _⟩ => ⟨S3x4096x32, .f32⟩
  | .local _ .vmem, ⟨12, _⟩ => ⟨S3x4096x32, .f32⟩
  | _, _ => ⟨S3x4096x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S3x4096x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x4096x18432 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x18432 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18432 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x18432 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x4096x7168 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7168x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x18432 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x4096x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x4096x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.KernelIdeal.Small.Runs.lean ====
/- Region 0 of the program: what the runs of its kernel body share (the windows' blocks, the branch conditions in closed form,
   the points at which a window is idle, the memrefs). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))
/-- Core `c`'s TensorCore buffers when the region is entered. -/
abbrev V (c : Dev nD) (b : Ref sig .tc) : Buf (Elt F) ((c : Thread nD τ).loc b) := m c b

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [cond0_0, e0]
    word_cmp
   : ∀ t : Fin grid0.N, cond0_0 (grid0.coords t) ↔ t.val % 48 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 48 = 47 :=
  (fun t => by
    have ht : t.val < 48 := Nat.lt_of_lt_of_eq t.isLt N_0
    have e0 : (grid0.coords t 0).val = t.val / 1 % 48 := Pipeline.Grid.coords_val t 0 (by decide) rfl
    simp only [cond0_1, k0_cond2, e0]
    word_cmp
   : ∀ t : Fin grid0.N, cond0_1 (grid0.coords t) ↔ t.val % 48 = 47)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel

/-! ## The kernel body on any staging memrefs: a subtype the run finds -/

/-- One staging buffer of output window 6, through which its contents are stated (`View.read_writes_of_cover`: the
    choice does not matter). -/
abbrev VO0_6 : View sig .tc .vmem S256x32 .f32 := (Memref.whole cc0_stg6_0 : Memref sig .tc .vmem S256x32 .f32).view
/-- One staging buffer of output window 7, through which its contents are stated (`View.read_writes_of_cover`: the
    choice does not matter). -/
abbrev VO0_7 : View sig .tc .vmem S256x32 .f32 := (Memref.whole cc0_stg7_0 : Memref sig .tc .vmem S256x32 .f32).view
/-- One staging buffer of output window 8, through which its contents are stated (`View.read_writes_of_cover`: the
    choice does not matter). -/
abbrev VO0_8 : View sig .tc .vmem S7168x32 .f32 := (Memref.whole cc0_stg8_0 : Memref sig .tc .vmem S7168x32 .f32).view
/-- One staging buffer of output window 9, through which its contents are stated (`View.read_writes_of_cover`: the
    choice does not matter). -/
abbrev VO0_9 : View sig .tc .vmem S32x18432 .f32 := (Memref.whole cc0_stg9_0 : Memref sig .tc .vmem S32x18432 .f32).view
/-- Each window's current staging memref at point `t`, spelled as the pipeline passes it (`bodyAt0`), and its wholeness. -/
abbrev ms0_0 (t : Fin cfg0.N) : Memref sig .tc .vmem S1x1x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x18432 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x7168 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x7168 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x18432 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S7168x32 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x18432 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S32x7168 .f32 := Memref.whole cc0_scratch0
abbrev scM0_1 : Memref sig .tc .vmem S32x18432 .f32 := Memref.whole cc0_scratch1
/-- The scratch `arg11` the kernel carries between points, as a view: what it holds is stated through it. -/
abbrev VS0_0 : View sig .tc .vmem S32x7168 .f32 := scM0_0.view
/-- The scratch `arg12` the kernel carries between points, as a view: what it holds is stated through it. -/
abbrev VS0_1 : View sig .tc .vmem S32x18432 .f32 := scM0_1.view

/-- The scoped buffers of the core that are neither a staging buffer nor a scratch of this region (the other region's),
    each at some contents, and the generator register at some state: what the body never touches. -/
def RestG (c : Dev nD) : sProp 𝕄 :=
  iprop(((∃ d, (c : Thread nD τ).loc cc1_stg0_0 ↦{fullShare} d) ∗ (∃ d, (c : Thread nD τ).loc cc1_stg0_1 ↦{fullShare} d) ∗ (∃ d, (c : Thread nD τ).loc cc1_stg1_0 ↦{fullShare} d) ∗ (∃ d, (c : Thread nD τ).loc cc1_stg1_1 ↦{fullShare} d) ∗ (∃ d, (c : Thread nD τ).loc cc1_stg2_0 ↦{fullShare} d) ∗ (∃ d, (c : Thread nD τ).loc cc1_stg2_1 ↦{fullShare} d) ∗ (∃ d, (c : Thread nD τ).loc cc1_stg3_0 ↦{fullShare} d) ∗ (∃ d, (c : Thread nD τ).loc cc1_stg3_1 ↦{fullShare} d) ∗ (∃ d, (c : Thread nD τ).loc cc1_stg4_0 ↦{fullShare} d) ∗ (∃ d, (c : Thread nD τ).loc cc1_stg4_1 ↦{fullShare} d) ∗ (∃ d, (c : Thread nD τ).loc cc1_stg5_0 ↦{fullShare} d) ∗ (∃ d, (c : Thread nD τ).loc cc1_stg5_1 ↦{fullShare} d) ∗ (∃ d, (c : Thread nD τ).loc cc1_stg6_0 ↦{fullShare} d) ∗ (∃ d, (c : Thread nD τ).loc cc1_stg6_1 ↦{fullShare} d) ∗ (∃ d, (c : Thread nD τ).loc cc1_scratch0 ↦{fullShare} d)) ∗ (∃ r, prngReg c r))

/-- The invariant before the first point: the scratch at anything, and what the body never touches. -/
def PhiA (c : Dev nD) : sProp 𝕄 := iprop(iprop((∃ d, owns (c : Thread nD τ) scM0_0 fullShare d) ∗ (∃ d, owns (c : Thread nD τ) scM0_1 fullShare d)) ∗ RestG (F := F) c)

theorem PhiA0_eq (c : Dev nD) : (PhiA c : sProp 𝕄) = iprop(iprop((∃ d, owns (c : Thread nD τ) scM0_0 fullShare d) ∗ (∃ d, owns (c : Thread nD τ) scM0_1 fullShare d)) ∗ RestG (F := F) c) := rfl

/-- What the region is handed is the invariant before the first point. -/
theorem enter_PhiA (c : Dev nD) :
    iprop(Pipeline.scopedRest (Ix := Unit) (Name := ℕ) (U := UR sig nD τ) (Lvl := ℕ) (Val := Elt F) spec0 c ∗ ∃ r, prngReg c r) ⊢ (PhiA c : sProp 𝕄) := by
  rw [scopedRest0_eq, PhiA0_eq]; unfold RestG
  simp only [scM0_0, scM0_1, owns_whole]
  iintro ⟨⟨B0, B1, B2, B3, B4, B5, B6, B7, B8, B9, B10, B11, B12, B13, B14, B15, B16⟩, Hg⟩
  isplitl [B0 B1]
  · isplitl [B0]
    · iexact B0
    iexact B1
  isplitl [B2 B3 B4 B5 B6 B7 B8 B9 B10 B11 B12 B13 B14 B15 B16]
  · isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    iexact B16
  iexact Hg

/-- And the invariant gives it back. -/
theorem leave_PhiA (c : Dev nD) :
    (PhiA c : sProp 𝕄) ⊢ iprop(Pipeline.scopedRest (Ix := Unit) (Name := ℕ) (U := UR sig nD τ) (Lvl := ℕ) (Val := Elt F) spec0 c ∗ ∃ r, prngReg c r) := by
  rw [scopedRest0_eq, PhiA0_eq]; unfold RestG
  simp only [scM0_0, scM0_1, owns_whole]
  iintro ⟨⟨S0, S1⟩, ⟨⟨B0, B1, B2, B3, B4, B5, B6, B7, B8, B9, B10, B11, B12, B13, B14⟩, Hg⟩⟩
  isplitl [S0 S1 B0 B1 B2 B3 B4 B5 B6 B7 B8 B9 B10 B11 B12 B13 B14]
  · isplitl [S0]; · iexact S0
    isplitl [S1]; · iexact S1
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14
  iexact Hg

end Cert.KernelIdeal.Gen.Small

end
-- ==== Proof.KernelIdeal.Small.RunA.lean ====
/- Region 0: the run of the kernel body at the points of case A. -/
module

public import proofs.«01_k».proof.Proof.KernelIdeal.Small.Runs

@[expose] public section

-- membership in a rectangle of production extents (`View.cover_of_tiled`): the elaborator's structural look
-- recurses once per coordinate of the long axes
set_option maxRecDepth 16384

noncomputable section

namespace Cert.KernelIdeal.Gen.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (8, 9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : cond0_0 i) (hc1 : ¬cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) :
    Σ' (L6 : List (View.Piece (Elt F) S256x32 .f32)), Σ' (L7 : List (View.Piece (Elt F) S256x32 .f32)), Σ' (L8 : List (View.Piece (Elt F) S7168x32 .f32)), Σ' (L9 : List (View.Piece (Elt F) S32x18432 .f32)), Σ' (LS0 : List (View.Piece (Elt F) S32x7168 .f32)), { LS1 : List (View.Piece (Elt F) S32x18432 .f32) //
      ∀ (xi8 : Vec F S7168x32 .f32) (xi9 : Vec F S32x18432 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xi8 ∗ owns (c : Thread nD τ) arg10 fullShare xi9 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xi8 ∗ owns (c : Thread nD τ) arg10 fullShare xi9 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0_lora_small i arg1 harg1 arg2 harg2 arg3 harg3 arg4 harg4 arg5 harg5 arg6 harg6 arg7 harg7 arg8 harg8 arg9 harg9 arg10 harg10 arg11 harg11 arg12 harg12) K } := by
  refine ⟨?_, ?_, [], [], ?_, ?_, fun xi8 xi9 E K => ?run⟩
  case run =>
    simp only [cc0_lora_small_eq_skeleton]; unfold cc0_lora_small_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]; · iexists _; iexact HS0
    iexists _; iexact HS1

end Cert.KernelIdeal.Gen.Small

end
-- ==== Proof.KernelIdeal.Small.RunB.lean ====
/- Region 0: the run of the kernel body at the points of case B. -/
module

public import proofs.«01_k».proof.Proof.KernelIdeal.Small.RunA

@[expose] public section

-- membership in a rectangle of production extents (`View.cover_of_tiled`): the elaborator's structural look
-- recurses once per coordinate of the long axes
set_option maxRecDepth 16384

noncomputable section

namespace Cert.KernelIdeal.Gen.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 46: 46 of 48), WITH the
    proof that on whole staging memrefs — the inputs' at their contents, the outputs it leaves idle (8, 9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : ¬cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) :
    Σ' (L6 : List (View.Piece (Elt F) S256x32 .f32)), Σ' (L7 : List (View.Piece (Elt F) S256x32 .f32)), Σ' (L8 : List (View.Piece (Elt F) S7168x32 .f32)), Σ' (L9 : List (View.Piece (Elt F) S32x18432 .f32)), Σ' (LS0 : List (View.Piece (Elt F) S32x7168 .f32)), { LS1 : List (View.Piece (Elt F) S32x18432 .f32) //
      ∀ (xi8 : Vec F S7168x32 .f32) (xi9 : Vec F S32x18432 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xi8 ∗ owns (c : Thread nD τ) arg10 fullShare xi9 ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xi8 ∗ owns (c : Thread nD τ) arg10 fullShare xi9 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0_lora_small i arg1 harg1 arg2 harg2 arg3 harg3 arg4 harg4 arg5 harg5 arg6 harg6 arg7 harg7 arg8 harg8 arg9 harg9 arg10 harg10 arg11 harg11 arg12 harg12) K } := by
  refine ⟨?_, ?_, [], [], ?_, ?_, fun xi8 xi9 E K => ?run⟩
  case run =>
    simp only [cc0_lora_small_eq_skeleton]; unfold cc0_lora_small_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg10.eq_unread hf9; obtain rfl := harg11.eq_unread hfs0; obtain rfl := harg12.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]; · iexists _; iexact HS0
    iexists _; iexact HS1

end Cert.KernelIdeal.Gen.Small

end
-- ==== Proof.KernelIdeal.Small.RunC.lean ====
/- Region 0: the run of the kernel body at the points of case C. -/
module

public import proofs.«01_k».proof.Proof.KernelIdeal.Small.RunB

@[expose] public section

-- membership in a rectangle of production extents (`View.cover_of_tiled`): the elaborator's structural look
-- recurses once per coordinate of the long axes
set_option maxRecDepth 16384

noncomputable section

namespace Cert.KernelIdeal.Gen.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE C (`scf.if` 0 not taken, `scf.if` 1 taken: points 47), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) :
    Σ' (L6 : List (View.Piece (Elt F) S256x32 .f32)), Σ' (L7 : List (View.Piece (Elt F) S256x32 .f32)), Σ' (L8 : List (View.Piece (Elt F) S7168x32 .f32)), Σ' (L9 : List (View.Piece (Elt F) S32x18432 .f32)), Σ' (LS0 : List (View.Piece (Elt F) S32x7168 .f32)), { LS1 : List (View.Piece (Elt F) S32x18432 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0_lora_small i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0_lora_small_eq_skeleton]; unfold cc0_lora_small_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg11.eq_unread hfs0; obtain rfl := harg12.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [HS0]; · iexists _; iexact HS0
    iexists _; iexact HS1

end Cert.KernelIdeal.Gen.Small

end
-- ==== Proof.KernelIdeal.Small.Frame.lean ====
/- Region 0: what the outputs and the carried scratch hold after each point, the proof data of the pipeline and its body obligation. -/
module

public import proofs.«01_k».proof.Proof.KernelIdeal.Small.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))
/-- Case A's pieces for output 6 tile its block (1 store of `S256x32`, checked by the kernel's evaluation: Lib/Ring.lean `Piece.tiledL`, linear in the pieces, through a loop's `@[irreducible]` trip theorem too), so they cover it. -/
theorem cover0_A_6 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : cond0_0 i) (hc1 : ¬cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (y : S256x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5).1 S256x32.size (by sl_kernel_rfl) y

/-- What case A leaves in output 6's staging buffer: its pieces read back over junk. -/
def out0_A_6 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : cond0_0 i) (hc1 : ¬cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) : Vec F S256x32 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5).1)

/-- Case A's pieces for output 7 tile its block (1 store of `S256x32`, checked by the kernel's evaluation: Lib/Ring.lean `Piece.tiledL`, linear in the pieces, through a loop's `@[irreducible]` trip theorem too), so they cover it. -/
theorem cover0_A_7 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : cond0_0 i) (hc1 : ¬cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (y : S256x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5).2.1 S256x32.size (by sl_kernel_rfl) y

/-- What case A leaves in output 7's staging buffer: its pieces read back over junk. -/
def out0_A_7 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : cond0_0 i) (hc1 : ¬cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) : Vec F S256x32 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5).2.1)

/-- Case A stores nothing into output 8 (the window is idle at its points and not written back there):
    no pieces — a placeholder (junk read back) that nothing consults, since at these points the window is neither
    written back nor read at the next point (Lib/Pipeline.lean "Idle points"). -/
def out0_A_8 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : cond0_0 i) (hc1 : ¬cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) : Vec F S7168x32 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5).2.2.1)

/-- Case A stores nothing into output 9 (the window is idle at its points and not written back there):
    no pieces — a placeholder (junk read back) that nothing consults, since at these points the window is neither
    written back nor read at the next point (Lib/Pipeline.lean "Idle points"). -/
def out0_A_9 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : cond0_0 i) (hc1 : ¬cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) : Vec F S32x18432 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5).2.2.2.1)

/-- Case A's pieces for scratch `arg11`, which the kernel carries between points, cover it: one of them a store of the WHOLE buffer (Lib/Ring.lean `sl_whole_mem`). -/
theorem scover0_A_0 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : cond0_0 i) (hc1 : ¬cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (y : S32x7168.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5).2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5).2.2.2.2.1 (by sl_whole_mem) y

/-- What case A leaves in scratch `arg11`: its pieces read back over junk. -/
def sout0_A_0 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : cond0_0 i) (hc1 : ¬cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) : Vec F S32x7168 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5).2.2.2.2.1)

/-- Case A's pieces for scratch `arg12`, which the kernel carries between points, cover it: one of them a store of the WHOLE buffer (Lib/Ring.lean `sl_whole_mem`). -/
theorem scover0_A_1 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : cond0_0 i) (hc1 : ¬cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (y : S32x18432.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5).2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5).2.2.2.2.2.1 (by sl_whole_mem) y

/-- What case A leaves in scratch `arg12`: its pieces read back over junk. -/
def sout0_A_1 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : cond0_0 i) (hc1 : ¬cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) : Vec F S32x18432 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5).2.2.2.2.2.1)

/-- Case B's pieces for output 6 tile its block (1 store of `S256x32`, checked by the kernel's evaluation: Lib/Ring.lean `Piece.tiledL`, linear in the pieces, through a loop's `@[irreducible]` trip theorem too), so they cover it. -/
theorem cover0_B_6 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : ¬cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) (y : S256x32.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S256x32.size (by sl_kernel_rfl) y

/-- What case B leaves in output 6's staging buffer: its pieces read back over junk. -/
def out0_B_6 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : ¬cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) : Vec F S256x32 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case B's pieces for output 7 tile its block (1 store of `S256x32`, checked by the kernel's evaluation: Lib/Ring.lean `Piece.tiledL`, linear in the pieces, through a loop's `@[irreducible]` trip theorem too), so they cover it. -/
theorem cover0_B_7 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : ¬cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) (y : S256x32.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 S256x32.size (by sl_kernel_rfl) y

/-- What case B leaves in output 7's staging buffer: its pieces read back over junk. -/
def out0_B_7 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : ¬cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) : Vec F S256x32 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case B stores nothing into output 8 (the window is idle at its points and not written back there):
    no pieces — a placeholder (junk read back) that nothing consults, since at these points the window is neither
    written back nor read at the next point (Lib/Pipeline.lean "Idle points"). -/
def out0_B_8 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : ¬cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) : Vec F S7168x32 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1)

/-- Case B stores nothing into output 9 (the window is idle at its points and not written back there):
    no pieces — a placeholder (junk read back) that nothing consults, since at these points the window is neither
    written back nor read at the next point (Lib/Pipeline.lean "Idle points"). -/
def out0_B_9 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : ¬cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) : Vec F S32x18432 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1)

/-- Case B's pieces for scratch `arg11`, which the kernel carries between points, cover it: 7 pieces of `S32x1024` tiling it (Lib/Ring.lean `Piece.tiledL`). -/
theorem scover0_B_0 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : ¬cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) (y : S32x7168.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S32x1024.size (by sl_kernel_rfl) y

/-- What case B leaves in scratch `arg11`: its pieces read back over junk. -/
def sout0_B_0 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : ¬cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) : Vec F S32x7168 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1)

/-- Case B's pieces for scratch `arg12`, which the kernel carries between points, cover it: 18 pieces of `S32x1024` tiling it (Lib/Ring.lean `Piece.tiledL`). -/
theorem scover0_B_1 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : ¬cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) (y : S32x18432.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.2.1 S32x1024.size (by sl_kernel_rfl) y

/-- What case B leaves in scratch `arg12`: its pieces read back over junk. -/
def sout0_B_1 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : ¬cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) : Vec F S32x18432 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.2.1)

/-- Case C's pieces for output 6 tile its block (1 store of `S256x32`, checked by the kernel's evaluation: Lib/Ring.lean `Piece.tiledL`, linear in the pieces, through a loop's `@[irreducible]` trip theorem too), so they cover it. -/
theorem cover0_C_6 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) (y : S256x32.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S256x32.size (by sl_kernel_rfl) y

/-- What case C leaves in output 6's staging buffer: its pieces read back over junk. -/
def out0_C_6 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) : Vec F S256x32 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case C's pieces for output 7 tile its block (1 store of `S256x32`, checked by the kernel's evaluation: Lib/Ring.lean `Piece.tiledL`, linear in the pieces, through a loop's `@[irreducible]` trip theorem too), so they cover it. -/
theorem cover0_C_7 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) (y : S256x32.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 S256x32.size (by sl_kernel_rfl) y

/-- What case C leaves in output 7's staging buffer: its pieces read back over junk. -/
def out0_C_7 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) : Vec F S256x32 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case C's pieces for output 8 tile its block (1 store of `S7168x32`, checked by the kernel's evaluation: Lib/Ring.lean `Piece.tiledL`, linear in the pieces, through a loop's `@[irreducible]` trip theorem too), so they cover it. -/
theorem cover0_C_8 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) (y : S7168x32.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1 S7168x32.size (by sl_kernel_rfl) y

/-- What case C leaves in output 8's staging buffer: its pieces read back over junk. -/
def out0_C_8 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) : Vec F S7168x32 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1)

/-- Case C's pieces for output 9 tile its block (1 store of `S32x18432`, checked by the kernel's evaluation: Lib/Ring.lean `Piece.tiledL`, linear in the pieces, through a loop's `@[irreducible]` trip theorem too), so they cover it. -/
theorem cover0_C_9 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) (y : S32x18432.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 S32x18432.size (by sl_kernel_rfl) y

/-- What case C leaves in output 9's staging buffer: its pieces read back over junk. -/
def out0_C_9 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) : Vec F S32x18432 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1)

/-- Case C's pieces for scratch `arg11`, which the kernel carries between points, cover it: 7 pieces of `S32x1024` tiling it (Lib/Ring.lean `Piece.tiledL`). -/
theorem scover0_C_0 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) (y : S32x7168.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S32x1024.size (by sl_kernel_rfl) y

/-- What case C leaves in scratch `arg11`: its pieces read back over junk. -/
def sout0_C_0 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) : Vec F S32x7168 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1)

/-- Case C's pieces for scratch `arg12`, which the kernel carries between points, cover it: 18 pieces of `S32x1024` tiling it (Lib/Ring.lean `Piece.tiledL`). -/
theorem scover0_C_1 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) (y : S32x18432.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.2.1 S32x1024.size (by sl_kernel_rfl) y

/-- What case C leaves in scratch `arg12`: its pieces read back over junk. -/
def sout0_C_1 (c : Dev nD) (i : grid0.Coords) (arg1 : Memref sig .tc .vmem S1x1x256 .f32) (harg1 : arg1.IsWhole) (arg2 : Memref sig .tc .vmem S1x1x256 .f32) (harg2 : arg2.IsWhole) (arg3 : Memref sig .tc .vmem S256x18432 .fp8e5m2) (harg3 : arg3.IsWhole) (arg4 : Memref sig .tc .vmem S256x7168 .fp8e4m3) (harg4 : arg4.IsWhole) (arg5 : Memref sig .tc .vmem S32x7168 .bf16) (harg5 : arg5.IsWhole) (arg6 : Memref sig .tc .vmem S32x18432 .bf16) (harg6 : arg6.IsWhole) (arg7 : Memref sig .tc .vmem S256x32 .f32) (harg7 : arg7.IsWhole) (arg8 : Memref sig .tc .vmem S256x32 .f32) (harg8 : arg8.IsWhole) (arg9 : Memref sig .tc .vmem S7168x32 .f32) (harg9 : arg9.IsWhole) (arg10 : Memref sig .tc .vmem S32x18432 .f32) (harg10 : arg10.IsWhole) (arg11 : Memref sig .tc .vmem S32x7168 .f32) (harg11 : arg11.IsWhole) (arg12 : Memref sig .tc .vmem S32x18432 .f32) (harg12 : arg12.IsWhole) (hc0 : ¬cond0_0 i) (hc1 : cond0_1 i)
    (x0 : Vec F S1x1x256 .f32) (x1 : Vec F S1x1x256 .f32) (x2 : Vec F S256x18432 .fp8e5m2) (x3 : Vec F S256x7168 .fp8e4m3) (x4 : Vec F S32x7168 .bf16) (x5 : Vec F S32x18432 .bf16) (xs0 : Vec F S32x7168 .f32) (xs1 : Vec F S32x18432 .f32) : Vec F S32x18432 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x32 .f32 × Vec F S256x32 .f32 × Vec F S7168x32 .f32 × Vec F S32x18432 .f32 × Vec F S32x7168 .f32 × Vec F S32x18432 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 48 = 0 then
      if h1 : (n + 1) % 48 = 47 then
        False.elim (by have hN : n + 1 < 48 := lt_of_lt_of_eq hn (show cfg0.N = 48 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 48 = 47 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.1 (outsAt0 c n (Nat.lt_of_succ_lt hn)).2.2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.1 (outsAt0 c n (Nat.lt_of_succ_lt hn)).2.2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.1 (outsAt0 c n (Nat.lt_of_succ_lt hn)).2.2.2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.1 (outsAt0 c n (Nat.lt_of_succ_lt hn)).2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.1 (outsAt0 c n (Nat.lt_of_succ_lt hn)).2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.1 (outsAt0 c n (Nat.lt_of_succ_lt hn)).2.2.2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.1 (outsAt0 c n (Nat.lt_of_succ_lt hn)).2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.1 (outsAt0 c n (Nat.lt_of_succ_lt hn)).2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.1 (outsAt0 c n (Nat.lt_of_succ_lt hn)).2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.1 (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 48 = 0) (h1 : ¬t.val % 48 = 47) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 48 = 0) (h1 : ¬t.val % 48 = 47) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 48 = 0) (h1 : t.val % 48 = 47) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => PhiA (F := F) c
  | n + 1, hn => iprop(iprop(owns (c : Thread nD τ) scM0_0 fullShare ((outsAt0 m c n hn).2.2.2.2.1) ∗ owns (c : Thread nD τ) scM0_1 fullShare ((outsAt0 m c n hn).2.2.2.2.2)) ∗ RestG (F := F) c)

theorem PhiS_zero (c : Dev nD) (n : ℕ) (h : n ≤ cfg0.N) (hz : n = 0) : PhiS m c n h = PhiA (F := F) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2)) ∗ RestG (F := F) c) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2)) ∗ RestG (F := F) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem after0_9 (c : Dev nD) (t : Fin cfg0.N) : (dats m 0 c).after 9 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 48 := lt_of_lt_of_eq t.isLt (show cfg0.N = 48 from N_0)
  by_cases h0 : t.val % 48 = 0
  · by_cases h1 : t.val % 48 = 47
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_6 out0_A_7 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexact H8
        isplitl [H9]; · iexact H9
        isplitl [HS0]; · iexact HS0
        isplitl [HS1]; · iexact HS1
        iintro ⟨H0, H1, H2, H3, H4, H5, ⟨%e6, H6⟩, ⟨%e7, H7⟩, H8, H9, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _ _)
        isplitl [H8]; · iexists _; iexact H8
        iexists _; iexact H9
      · exfalso; have hN : t.val < 48 := lt_of_lt_of_eq t.isLt (show cfg0.N = 48 from N_0); omega
  · by_cases h1 : t.val % 48 = 47
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_1 t).mpr h1)], after0_8]
      rw [show (dats m 0 c).leavesExact 9 t = owns (c : Thread nD τ) (ms0_9 t) fullShare ((dats m 0 c).after 9 t) from by
      unfold Dat.leavesExact; rw [liveAt0_9_C t (fun h => h0 ((hcond0_0 t).mp h)) ((hcond0_1 t).mpr h1)], after0_9]
      by_cases hz : t.val = 0
      · exfalso; have hN : t.val < 48 := lt_of_lt_of_eq t.isLt (show cfg0.N = 48 from N_0); omega
      · rw [PhiS_castSucc m c t, PhiS_pos m c _ _ hz]
        rw [outsAt0_C m c t h0 h1]
        unfold out0_C_6 out0_C_7 out0_C_8 out0_C_9 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [HS0]; · iexact HS0
        isplitl [HS1]; · iexact HS1
        iintro ⟨H0, H1, H2, H3, H4, H5, ⟨%e6, H6⟩, ⟨%e7, H7⟩, ⟨%e8, H8⟩, ⟨%e9, H9⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      by_cases hz : t.val = 0
      · exfalso; have hN : t.val < 48 := lt_of_lt_of_eq t.isLt (show cfg0.N = 48 from N_0); omega
      · rw [PhiS_castSucc m c t, PhiS_pos m c _ _ hz]
        rw [outsAt0_B m c t h0 h1]
        unfold out0_B_6 out0_B_7 sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexact H8
        isplitl [H9]; · iexact H9
        isplitl [HS0]; · iexact HS0
        isplitl [HS1]; · iexact HS1
        iintro ⟨H0, H1, H2, H3, H4, H5, ⟨%e6, H6⟩, ⟨%e7, H7⟩, H8, H9, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _ _ _ _)
        isplitl [H8]; · iexists _; iexact H8
        iexists _; iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : PhiA (F := F) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ PhiA (F := F) c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ PhiA (F := F) c :=
  Phi_out m c _ (by rw [Fin.val_last]; have : cfg0.N = 48 := N_0; omega)

end Cert.KernelIdeal.Gen.Small

end
-- ==== Proof.KernelIdeal.Dx.Runs.lean ====
/- Region 1 of the program: what the runs of its kernel body share (the windows' blocks, the branch conditions in closed form,
   the points at which a window is idle, the memrefs). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen.Dx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))
/-- Core `c`'s TensorCore buffers when the region is entered. -/
abbrev V (c : Dev nD) (b : Ref sig .tc) : Buf (Elt F) ((c : Thread nD τ).loc b) := m c b

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V m c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg1 c) (hA : dat.A 0 = V m c (Pipeline.arrRef spec1 0))
    (hafter : ∀ t, dat.after 0 t = iblk m c 0 t) (t : Fin cfg1.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg1 c) (hA : dat.A 1 = V m c (Pipeline.arrRef spec1 1))
    (hafter : ∀ t, dat.after 1 t = iblk m c 1 t) (t : Fin cfg1.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg1 c) (hA : dat.A 2 = V m c (Pipeline.arrRef spec1 2))
    (hafter : ∀ t, dat.after 2 t = iblk m c 2 t) (t : Fin cfg1.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg1 c) (hA : dat.A 3 = V m c (Pipeline.arrRef spec1 3))
    (hafter : ∀ t, dat.after 3 t = iblk m c 3 t) (t : Fin cfg1.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg1 c) (hA : dat.A 4 = V m c (Pipeline.arrRef spec1 4))
    (hafter : ∀ t, dat.after 4 t = iblk m c 4 t) (t : Fin cfg1.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg1 c) (hA : dat.A 5 = V m c (Pipeline.arrRef spec1 5))
    (hafter : ∀ t, dat.after 5 t = iblk m c 5 t) (t : Fin cfg1.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond0_0 (i : grid1.Coords) : Prop := (Scalar.cmpi .ne (Scalar.extui (Scalar.cmpi .eq (BitVec.ofNat 32 (i 2).val) 0#32)) 0#32) = 1#1
/-- It holds at the points ≡ 0 (mod 9) — by arithmetic of the point. -/
theorem hcond0_0 : ∀ t : Fin cfg1.N, cond0_0 (grid1.coords t) ↔ t.val % 9 = 0 :=
  (fun t => by
    have ht : t.val < 756 := Nat.lt_of_lt_of_eq t.isLt N_1
    have e0 : (grid1.coords t 0).val = t.val / 63 % 12 := Pipeline.Grid.coords_val t 0 (by decide) rfl
    have e1 : (grid1.coords t 1).val = t.val / 9 % 7 := Pipeline.Grid.coords_val t 1 (by decide) rfl
    have e2 : (grid1.coords t 2).val = t.val / 1 % 9 := Pipeline.Grid.coords_val t 2 (by decide) rfl
    simp only [cond0_0, e0, e1, e2]
    word_cmp
   : ∀ t : Fin grid1.N, cond0_0 (grid1.coords t) ↔ t.val % 9 = 0)

/-- The condition of the body's `scf.if` 1 (`k1_h2`), from the grid coordinates (the skeleton's scalar
    chain substituted). -/
abbrev cond0_1 (i : grid1.Coords) : Prop := k1_cond2 i = 1#1
/-- It holds at the points ≡ 8 (mod 9) — by arithmetic of the point. -/
theorem hcond0_1 : ∀ t : Fin cfg1.N, cond0_1 (grid1.coords t) ↔ t.val % 9 = 8 :=
  (fun t => by
    have ht : t.val < 756 := Nat.lt_of_lt_of_eq t.isLt N_1
    have e0 : (grid1.coords t 0).val = t.val / 63 % 12 := Pipeline.Grid.coords_val t 0 (by decide) rfl
    have e1 : (grid1.coords t 1).val = t.val / 9 % 7 := Pipeline.Grid.coords_val t 1 (by decide) rfl
    have e2 : (grid1.coords t 2).val = t.val / 1 % 9 := Pipeline.Grid.coords_val t 2 (by decide) rfl
    simp only [cond0_1, k1_cond2, e0, e1, e2]
    word_cmp
   : ∀ t : Fin grid1.N, cond0_1 (grid1.coords t) ↔ t.val % 9 = 8)

/-! ## Where the windows are idle (the printed configuration's table `Cfg.idle`) -/

/-- Window 0 is never idle (an input). -/
theorem liveAt0_0 : ∀ t : Fin cfg1.N, cfg1.idle 0 (grid1.coords t) = false := fun _ => rfl
/-- Window 1 is never idle (an input). -/
theorem liveAt0_1 : ∀ t : Fin cfg1.N, cfg1.idle 1 (grid1.coords t) = false := fun _ => rfl
/-- Window 2 is never idle (an input). -/
theorem liveAt0_2 : ∀ t : Fin cfg1.N, cfg1.idle 2 (grid1.coords t) = false := fun _ => rfl
/-- Window 3 is never idle (an input). -/
theorem liveAt0_3 : ∀ t : Fin cfg1.N, cfg1.idle 3 (grid1.coords t) = false := fun _ => rfl
/-- Window 4 is never idle (an input). -/
theorem liveAt0_4 : ∀ t : Fin cfg1.N, cfg1.idle 4 (grid1.coords t) = false := fun _ => rfl
/-- Window 5 is never idle (an input). -/
theorem liveAt0_5 : ∀ t : Fin cfg1.N, cfg1.idle 5 (grid1.coords t) = false := fun _ => rfl
/-- At the points of case A the printed configuration (`Cfg.idle`) calls output 6 idle: the case stores nothing into it. -/
theorem idleAt0_6_A : ∀ t : Fin cfg1.N, cond0_0 (grid1.coords t) → ¬cond0_1 (grid1.coords t) → cfg1.idle 6 (grid1.coords t) = true := by decide +kernel
/-- At the points of case A the pipeline does not write output 6's block back. -/
theorem noFlush0_6_A : ∀ t : Fin cfg1.N, cond0_0 (grid1.coords t) → ¬cond0_1 (grid1.coords t) → (cfg1.win 6).flush t = false := by decide +kernel
/-- At the points of case B the printed configuration (`Cfg.idle`) calls output 6 idle: the case stores nothing into it. -/
theorem idleAt0_6_B : ∀ t : Fin cfg1.N, ¬cond0_0 (grid1.coords t) → ¬cond0_1 (grid1.coords t) → cfg1.idle 6 (grid1.coords t) = true := by decide +kernel
/-- At the points of case B the pipeline does not write output 6's block back. -/
theorem noFlush0_6_B : ∀ t : Fin cfg1.N, ¬cond0_0 (grid1.coords t) → ¬cond0_1 (grid1.coords t) → (cfg1.win 6).flush t = false := by decide +kernel
/-- At the points of case C the printed configuration (`Cfg.idle`) calls output 6 live: the case stores into it. -/
theorem liveAt0_6_C : ∀ t : Fin cfg1.N, ¬cond0_0 (grid1.coords t) → cond0_1 (grid1.coords t) → cfg1.idle 6 (grid1.coords t) = false := by decide +kernel

/-! ## The kernel body on any staging memrefs: a subtype the run finds -/

/-- One staging buffer of output window 6, through which its contents are stated (`View.read_writes_of_cover`: the
    choice does not matter). -/
abbrev VO0_6 : View sig .tc .vmem S1024x1024 .bf16 := (Memref.whole cc1_stg6_0 : Memref sig .tc .vmem S1024x1024 .bf16).view
/-- Each window's current staging memref at point `t`, spelled as the pipeline passes it (`bodyAt1`), and its wholeness. -/
abbrev ms0_0 (t : Fin cfg1.N) : Memref sig .tc .vmem S1024x1 .f32 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S1x2048 .bf16 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S1024x32 .f32 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S1024x2048 .fp8e5m2 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S1024x2048 .fp8e4m3 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S1024x32 .bf16 := win1_5.stage (cfg1.slots t 5)
abbrev hs0_5 (t : Fin cfg1.N) : (ms0_5 t).IsWhole := hstage1_5 ((cfg1.slots t 5).cast nbuf1_5)
abbrev ms0_6 (t : Fin cfg1.N) : Memref sig .tc .vmem S1024x1024 .bf16 := win1_6.stage (cfg1.slots t 6)
abbrev hs0_6 (t : Fin cfg1.N) : (ms0_6 t).IsWhole := hstage1_6 ((cfg1.slots t 6).cast nbuf1_6)
/-- The scratch operands: whole scoped buffers of the kernel's own, passed beside the windows. -/
abbrev scM0_0 : Memref sig .tc .vmem S1024x1024 .f32 := Memref.whole cc1_scratch0
/-- The scratch `arg10` the kernel carries between points, as a view: what it holds is stated through it. -/
abbrev VS0_0 : View sig .tc .vmem S1024x1024 .f32 := scM0_0.view

/-- The scoped buffers of the core that are neither a staging buffer nor a scratch of this region (the other region's),
    each at some contents, and the generator register at some state: what the body never touches. -/
def RestG (c : Dev nD) : sProp 𝕄 :=
  iprop(((∃ d, (c : Thread nD τ).loc cc0_stg0_0 ↦{fullShare} d) ∗ (∃ d, (c : Thread nD τ).loc cc0_stg0_1 ↦{fullShare} d) ∗ (∃ d, (c : Thread nD τ).loc cc0_stg1_0 ↦{fullShare} d) ∗ (∃ d, (c : Thread nD τ).loc cc0_stg1_1 ↦{fullShare} d) ∗ (∃ d, (c : Thread nD τ).loc cc0_stg2_0 ↦{fullShare} d) ∗ (∃ d, (c : Thread nD τ).loc cc0_stg2_1 ↦{fullShare} d) ∗ (∃ d, (c : Thread nD τ).loc cc0_stg3_0 ↦{fullShare} d) ∗ (∃ d, (c : Thread nD τ).loc cc0_stg3_1 ↦{fullShare} d) ∗ (∃ d, (c : Thread nD τ).loc cc0_stg4_0 ↦{fullShare} d) ∗ (∃ d, (c : Thread nD τ).loc cc0_stg5_0 ↦{fullShare} d) ∗ (∃ d, (c : Thread nD τ).loc cc0_stg6_0 ↦{fullShare} d) ∗ (∃ d, (c : Thread nD τ).loc cc0_stg6_1 ↦{fullShare} d) ∗ (∃ d, (c : Thread nD τ).loc cc0_stg7_0 ↦{fullShare} d) ∗ (∃ d, (c : Thread nD τ).loc cc0_stg7_1 ↦{fullShare} d) ∗ (∃ d, (c : Thread nD τ).loc cc0_stg8_0 ↦{fullShare} d) ∗ (∃ d, (c : Thread nD τ).loc cc0_stg9_0 ↦{fullShare} d) ∗ (∃ d, (c : Thread nD τ).loc cc0_scratch0 ↦{fullShare} d) ∗ (∃ d, (c : Thread nD τ).loc cc0_scratch1 ↦{fullShare} d)) ∗ (∃ r, prngReg c r))

/-- The invariant before the first point: the scratch at anything, and what the body never touches. -/
def PhiA (c : Dev nD) : sProp 𝕄 := iprop(iprop(∃ d, owns (c : Thread nD τ) scM0_0 fullShare d) ∗ RestG (F := F) c)

theorem PhiA0_eq (c : Dev nD) : (PhiA c : sProp 𝕄) = iprop(iprop(∃ d, owns (c : Thread nD τ) scM0_0 fullShare d) ∗ RestG (F := F) c) := rfl

/-- What the region is handed is the invariant before the first point. -/
theorem enter_PhiA (c : Dev nD) :
    iprop(Pipeline.scopedRest (Ix := Unit) (Name := ℕ) (U := UR sig nD τ) (Lvl := ℕ) (Val := Elt F) spec1 c ∗ ∃ r, prngReg c r) ⊢ (PhiA c : sProp 𝕄) := by
  rw [scopedRest1_eq, PhiA0_eq]; unfold RestG
  simp only [scM0_0, owns_whole]
  iintro ⟨⟨B0, B1, B2, B3, B4, B5, B6, B7, B8, B9, B10, B11, B12, B13, B14, B15, B16, B17, B18⟩, Hg⟩
  isplitl [B18]
  · iexact B18
  isplitl [B0 B1 B2 B3 B4 B5 B6 B7 B8 B9 B10 B11 B12 B13 B14 B15 B16 B17]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    isplitl [B16]; · iexact B16
    iexact B17
  iexact Hg

/-- And the invariant gives it back. -/
theorem leave_PhiA (c : Dev nD) :
    (PhiA c : sProp 𝕄) ⊢ iprop(Pipeline.scopedRest (Ix := Unit) (Name := ℕ) (U := UR sig nD τ) (Lvl := ℕ) (Val := Elt F) spec1 c ∗ ∃ r, prngReg c r) := by
  rw [scopedRest1_eq, PhiA0_eq]; unfold RestG
  simp only [scM0_0, owns_whole]
  iintro ⟨S0, ⟨⟨B0, B1, B2, B3, B4, B5, B6, B7, B8, B9, B10, B11, B12, B13, B14, B15, B16, B17⟩, Hg⟩⟩
  isplitl [B0 B1 B2 B3 B4 B5 B6 B7 B8 B9 B10 B11 B12 B13 B14 B15 B16 B17 S0]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    isplitl [B16]; · iexact B16
    isplitl [B17]; · iexact B17
    iexact S0
  iexact Hg

end Cert.KernelIdeal.Gen.Dx

end
-- ==== Proof.KernelIdeal.Dx.RunA.lean ====
/- Region 1: the run of the kernel body at the points of case A. -/
module

public import proofs.«01_k».proof.Proof.KernelIdeal.Dx.Runs

@[expose] public section

-- membership in a rectangle of production extents (`View.cover_of_tiled`): the elaborator's structural look
-- recurses once per coordinate of the long axes
set_option maxRecDepth 16384

noncomputable section

namespace Cert.KernelIdeal.Gen.Dx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 9, … 747: 84 of 756), WITH the
    proof that on whole staging memrefs — the inputs' at their contents, the outputs it leaves idle (6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid1.Coords) (arg3 : Memref sig .tc .vmem S1024x1 .f32) (harg3 : arg3.IsWhole) (arg4 : Memref sig .tc .vmem S1x2048 .bf16) (harg4 : arg4.IsWhole) (arg5 : Memref sig .tc .vmem S1024x32 .f32) (harg5 : arg5.IsWhole) (arg6 : Memref sig .tc .vmem S1024x2048 .fp8e5m2) (harg6 : arg6.IsWhole) (arg7 : Memref sig .tc .vmem S1024x2048 .fp8e4m3) (harg7 : arg7.IsWhole) (arg8 : Memref sig .tc .vmem S1024x32 .bf16) (harg8 : arg8.IsWhole) (arg9 : Memref sig .tc .vmem S1024x1024 .bf16) (harg9 : arg9.IsWhole) (arg10 : Memref sig .tc .vmem S1024x1024 .f32) (harg10 : arg10.IsWhole) (hc0 : cond0_0 i) (hc1 : ¬cond0_1 i)
    (x0 : Vec F S1024x1 .f32) (x1 : Vec F S1x2048 .bf16) (x2 : Vec F S1024x32 .f32) (x3 : Vec F S1024x2048 .fp8e5m2) (x4 : Vec F S1024x2048 .fp8e4m3) (x5 : Vec F S1024x32 .bf16) :
    Σ' (L6 : List (View.Piece (Elt F) S1024x1024 .bf16)), { LS0 : List (View.Piece (Elt F) S1024x1024 .f32) //
      ∀ (xi6 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1_lora_dx i arg3 harg3 arg4 harg4 arg5 harg5 arg6 harg6 arg7 harg7 arg8 harg8 arg9 harg9 arg10 harg10) K } := by
  refine ⟨[], ?_, fun xi6 E K => ?run⟩
  case run =>
    simp only [cc1_lora_dx_eq_skeleton]; unfold cc1_lora_dx_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.KernelIdeal.Gen.Dx

end
-- ==== Proof.KernelIdeal.Dx.RunB.lean ====
/- Region 1: the run of the kernel body at the points of case B. -/
module

public import proofs.«01_k».proof.Proof.KernelIdeal.Dx.RunA

@[expose] public section

-- membership in a rectangle of production extents (`View.cover_of_tiled`): the elaborator's structural look
-- recurses once per coordinate of the long axes
set_option maxRecDepth 16384

noncomputable section

namespace Cert.KernelIdeal.Gen.Dx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 754: 588 of 756), WITH the
    proof that on whole staging memrefs — the inputs' at their contents, the outputs it leaves idle (6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid1.Coords) (arg3 : Memref sig .tc .vmem S1024x1 .f32) (harg3 : arg3.IsWhole) (arg4 : Memref sig .tc .vmem S1x2048 .bf16) (harg4 : arg4.IsWhole) (arg5 : Memref sig .tc .vmem S1024x32 .f32) (harg5 : arg5.IsWhole) (arg6 : Memref sig .tc .vmem S1024x2048 .fp8e5m2) (harg6 : arg6.IsWhole) (arg7 : Memref sig .tc .vmem S1024x2048 .fp8e4m3) (harg7 : arg7.IsWhole) (arg8 : Memref sig .tc .vmem S1024x32 .bf16) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : ¬cond0_1 i)
    (x0 : Vec F S1024x1 .f32) (x1 : Vec F S1x2048 .bf16) (x2 : Vec F S1024x32 .f32) (x3 : Vec F S1024x2048 .fp8e5m2) (x4 : Vec F S1024x2048 .fp8e4m3) (x5 : Vec F S1024x32 .bf16) (xs0 : Vec F S1024x1024 .f32) :
    Σ' (L6 : List (View.Piece (Elt F) S1024x1024 .bf16)), { LS0 : List (View.Piece (Elt F) S1024x1024 .f32) //
      ∀ (xi6 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1_lora_dx i arg3 harg3 arg4 harg4 arg5 harg5 arg6 harg6 arg7 harg7 arg8 harg8 arg9 harg9 arg10 harg10) K } := by
  refine ⟨[], ?_, fun xi6 E K => ?run⟩
  case run =>
    simp only [cc1_lora_dx_eq_skeleton]; unfold cc1_lora_dx_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.KernelIdeal.Gen.Dx

end
-- ==== Proof.KernelIdeal.Dx.RunC.lean ====
/- Region 1: the run of the kernel body at the points of case C. -/
module

public import proofs.«01_k».proof.Proof.KernelIdeal.Dx.RunB

@[expose] public section

-- membership in a rectangle of production extents (`View.cover_of_tiled`): the elaborator's structural look
-- recurses once per coordinate of the long axes
set_option maxRecDepth 16384

noncomputable section

namespace Cert.KernelIdeal.Gen.Dx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE C (`scf.if` 0 not taken, `scf.if` 1 taken: points 8, 17, … 755: 84 of 756), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid1.Coords) (arg3 : Memref sig .tc .vmem S1024x1 .f32) (harg3 : arg3.IsWhole) (arg4 : Memref sig .tc .vmem S1x2048 .bf16) (harg4 : arg4.IsWhole) (arg5 : Memref sig .tc .vmem S1024x32 .f32) (harg5 : arg5.IsWhole) (arg6 : Memref sig .tc .vmem S1024x2048 .fp8e5m2) (harg6 : arg6.IsWhole) (arg7 : Memref sig .tc .vmem S1024x2048 .fp8e4m3) (harg7 : arg7.IsWhole) (arg8 : Memref sig .tc .vmem S1024x32 .bf16) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : cond0_1 i)
    (x0 : Vec F S1024x1 .f32) (x1 : Vec F S1x2048 .bf16) (x2 : Vec F S1024x32 .f32) (x3 : Vec F S1024x2048 .fp8e5m2) (x4 : Vec F S1024x2048 .fp8e4m3) (x5 : Vec F S1024x32 .bf16) (xs0 : Vec F S1024x1024 .f32) :
    Σ' (L6 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1_lora_dx i arg3 harg3 arg4 harg4 arg5 harg5 arg6 harg6 arg7 harg7 arg8 harg8 arg9 harg9 arg10 harg10) K } := by
  refine ⟨?_, ?_, fun E K => ?run⟩
  case run =>
    simp only [cc1_lora_dx_eq_skeleton]; unfold cc1_lora_dx_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

end Cert.KernelIdeal.Gen.Dx

end
-- ==== Proof.KernelIdeal.Dx.Frame.lean ====
/- Region 1: what the outputs and the carried scratch hold after each point, the proof data of the pipeline and its body obligation. -/
module

public import proofs.«01_k».proof.Proof.KernelIdeal.Dx.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen.Dx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))
/-- Case A stores nothing into output 6 (the window is idle at its points and not written back there):
    no pieces — a placeholder (junk read back) that nothing consults, since at these points the window is neither
    written back nor read at the next point (Lib/Pipeline.lean "Idle points"). -/
def out0_A_6 (c : Dev nD) (i : grid1.Coords) (arg3 : Memref sig .tc .vmem S1024x1 .f32) (harg3 : arg3.IsWhole) (arg4 : Memref sig .tc .vmem S1x2048 .bf16) (harg4 : arg4.IsWhole) (arg5 : Memref sig .tc .vmem S1024x32 .f32) (harg5 : arg5.IsWhole) (arg6 : Memref sig .tc .vmem S1024x2048 .fp8e5m2) (harg6 : arg6.IsWhole) (arg7 : Memref sig .tc .vmem S1024x2048 .fp8e4m3) (harg7 : arg7.IsWhole) (arg8 : Memref sig .tc .vmem S1024x32 .bf16) (harg8 : arg8.IsWhole) (arg9 : Memref sig .tc .vmem S1024x1024 .bf16) (harg9 : arg9.IsWhole) (arg10 : Memref sig .tc .vmem S1024x1024 .f32) (harg10 : arg10.IsWhole) (hc0 : cond0_0 i) (hc1 : ¬cond0_1 i)
    (x0 : Vec F S1024x1 .f32) (x1 : Vec F S1x2048 .bf16) (x2 : Vec F S1024x32 .f32) (x3 : Vec F S1024x2048 .fp8e5m2) (x4 : Vec F S1024x2048 .fp8e4m3) (x5 : Vec F S1024x32 .bf16) : Vec F S1024x1024 .bf16 :=
  VO0_6.read (Elt F) (VO0_6.writes (Elt F) VO0_6.junk (kernelRun0_A c i arg3 harg3 arg4 harg4 arg5 harg5 arg6 harg6 arg7 harg7 arg8 harg8 arg9 harg9 arg10 harg10 hc0 hc1 x0 x1 x2 x3 x4 x5).1)

/-- Case A's pieces for scratch `arg10`, which the kernel carries between points, cover it: 2 pieces of `S1024x1024` tiling it (Lib/Ring.lean `Piece.tiledL`). -/
theorem scover0_A_0 (c : Dev nD) (i : grid1.Coords) (arg3 : Memref sig .tc .vmem S1024x1 .f32) (harg3 : arg3.IsWhole) (arg4 : Memref sig .tc .vmem S1x2048 .bf16) (harg4 : arg4.IsWhole) (arg5 : Memref sig .tc .vmem S1024x32 .f32) (harg5 : arg5.IsWhole) (arg6 : Memref sig .tc .vmem S1024x2048 .fp8e5m2) (harg6 : arg6.IsWhole) (arg7 : Memref sig .tc .vmem S1024x2048 .fp8e4m3) (harg7 : arg7.IsWhole) (arg8 : Memref sig .tc .vmem S1024x32 .bf16) (harg8 : arg8.IsWhole) (arg9 : Memref sig .tc .vmem S1024x1024 .bf16) (harg9 : arg9.IsWhole) (arg10 : Memref sig .tc .vmem S1024x1024 .f32) (harg10 : arg10.IsWhole) (hc0 : cond0_0 i) (hc1 : ¬cond0_1 i)
    (x0 : Vec F S1024x1 .f32) (x1 : Vec F S1x2048 .bf16) (x2 : Vec F S1024x32 .f32) (x3 : Vec F S1024x2048 .fp8e5m2) (x4 : Vec F S1024x2048 .fp8e4m3) (x5 : Vec F S1024x32 .bf16) (y : S1024x1024.Idx) :
    ∃ pc ∈ (kernelRun0_A c i arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4 x5).2.1 S1024x1024.size (by sl_kernel_rfl) y

/-- What case A leaves in scratch `arg10`: its pieces read back over junk. -/
def sout0_A_0 (c : Dev nD) (i : grid1.Coords) (arg3 : Memref sig .tc .vmem S1024x1 .f32) (harg3 : arg3.IsWhole) (arg4 : Memref sig .tc .vmem S1x2048 .bf16) (harg4 : arg4.IsWhole) (arg5 : Memref sig .tc .vmem S1024x32 .f32) (harg5 : arg5.IsWhole) (arg6 : Memref sig .tc .vmem S1024x2048 .fp8e5m2) (harg6 : arg6.IsWhole) (arg7 : Memref sig .tc .vmem S1024x2048 .fp8e4m3) (harg7 : arg7.IsWhole) (arg8 : Memref sig .tc .vmem S1024x32 .bf16) (harg8 : arg8.IsWhole) (arg9 : Memref sig .tc .vmem S1024x1024 .bf16) (harg9 : arg9.IsWhole) (arg10 : Memref sig .tc .vmem S1024x1024 .f32) (harg10 : arg10.IsWhole) (hc0 : cond0_0 i) (hc1 : ¬cond0_1 i)
    (x0 : Vec F S1024x1 .f32) (x1 : Vec F S1x2048 .bf16) (x2 : Vec F S1024x32 .f32) (x3 : Vec F S1024x2048 .fp8e5m2) (x4 : Vec F S1024x2048 .fp8e4m3) (x5 : Vec F S1024x32 .bf16) : Vec F S1024x1024 .f32 :=
  VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3 x4 x5).2.1)

/-- Case B stores nothing into output 6 (the window is idle at its points and not written back there):
    no pieces — a placeholder (junk read back) that nothing consults, since at these points the window is neither
    written back nor read at the next point (Lib/Pipeline.lean "Idle points"). -/
def out0_B_6 (c : Dev nD) (i : grid1.Coords) (arg3 : Memref sig .tc .vmem S1024x1 .f32) (harg3 : arg3.IsWhole) (arg4 : Memref sig .tc .vmem S1x2048 .bf16) (harg4 : arg4.IsWhole) (arg5 : Memref sig .tc .vmem S1024x32 .f32) (harg5 : arg5.IsWhole) (arg6 : Memref sig .tc .vmem S1024x2048 .fp8e5m2) (harg6 : arg6.IsWhole) (arg7 : Memref sig .tc .vmem S1024x2048 .fp8e4m3) (harg7 : arg7.IsWhole) (arg8 : Memref sig .tc .vmem S1024x32 .bf16) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : ¬cond0_1 i)
    (x0 : Vec F S1024x1 .f32) (x1 : Vec F S1x2048 .bf16) (x2 : Vec F S1024x32 .f32) (x3 : Vec F S1024x2048 .fp8e5m2) (x4 : Vec F S1024x2048 .fp8e4m3) (x5 : Vec F S1024x32 .bf16) (xs0 : Vec F S1024x1024 .f32) : Vec F S1024x1024 .bf16 :=
  VO0_6.read (Elt F) (VO0_6.writes (Elt F) VO0_6.junk (kernelRun0_B c i arg3 harg3 arg4 harg4 arg5 harg5 arg6 harg6 arg7 harg7 arg8 harg8 arg9 harg9 arg10 harg10 hc0 hc1 x0 x1 x2 x3 x4 x5 xs0).1)

/-- Case B's pieces for scratch `arg10`, which the kernel carries between points, cover it: 1 piece of `S1024x1024` tiling it (Lib/Ring.lean `Piece.tiledL`). -/
theorem scover0_B_0 (c : Dev nD) (i : grid1.Coords) (arg3 : Memref sig .tc .vmem S1024x1 .f32) (harg3 : arg3.IsWhole) (arg4 : Memref sig .tc .vmem S1x2048 .bf16) (harg4 : arg4.IsWhole) (arg5 : Memref sig .tc .vmem S1024x32 .f32) (harg5 : arg5.IsWhole) (arg6 : Memref sig .tc .vmem S1024x2048 .fp8e5m2) (harg6 : arg6.IsWhole) (arg7 : Memref sig .tc .vmem S1024x2048 .fp8e4m3) (harg7 : arg7.IsWhole) (arg8 : Memref sig .tc .vmem S1024x32 .bf16) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : ¬cond0_1 i)
    (x0 : Vec F S1024x1 .f32) (x1 : Vec F S1x2048 .bf16) (x2 : Vec F S1024x32 .f32) (x3 : Vec F S1024x2048 .fp8e5m2) (x4 : Vec F S1024x2048 .fp8e4m3) (x5 : Vec F S1024x32 .bf16) (xs0 : Vec F S1024x1024 .f32) (y : S1024x1024.Idx) :
    ∃ pc ∈ (kernelRun0_B c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 x5 xs0).2.1 S1024x1024.size (by sl_kernel_rfl) y

/-- What case B leaves in scratch `arg10`: its pieces read back over junk. -/
def sout0_B_0 (c : Dev nD) (i : grid1.Coords) (arg3 : Memref sig .tc .vmem S1024x1 .f32) (harg3 : arg3.IsWhole) (arg4 : Memref sig .tc .vmem S1x2048 .bf16) (harg4 : arg4.IsWhole) (arg5 : Memref sig .tc .vmem S1024x32 .f32) (harg5 : arg5.IsWhole) (arg6 : Memref sig .tc .vmem S1024x2048 .fp8e5m2) (harg6 : arg6.IsWhole) (arg7 : Memref sig .tc .vmem S1024x2048 .fp8e4m3) (harg7 : arg7.IsWhole) (arg8 : Memref sig .tc .vmem S1024x32 .bf16) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : ¬cond0_1 i)
    (x0 : Vec F S1024x1 .f32) (x1 : Vec F S1x2048 .bf16) (x2 : Vec F S1024x32 .f32) (x3 : Vec F S1024x2048 .fp8e5m2) (x4 : Vec F S1024x2048 .fp8e4m3) (x5 : Vec F S1024x32 .bf16) (xs0 : Vec F S1024x1024 .f32) : Vec F S1024x1024 .f32 :=
  VS0_0.read (Elt F) (VS0_0.writes (Elt F) VS0_0.junk (kernelRun0_B c i arg3 harg3 arg4 harg4 arg5 harg5 arg6 harg6 arg7 harg7 arg8 harg8 arg9 harg9 arg10 harg10 hc0 hc1 x0 x1 x2 x3 x4 x5 xs0).2.1)

/-- Case C's pieces for output 6 tile its block (1 store of `S1024x1024`, checked by the kernel's evaluation: Lib/Ring.lean `Piece.tiledL`, linear in the pieces, through a loop's `@[irreducible]` trip theorem too), so they cover it. -/
theorem cover0_C_6 (c : Dev nD) (i : grid1.Coords) (arg3 : Memref sig .tc .vmem S1024x1 .f32) (harg3 : arg3.IsWhole) (arg4 : Memref sig .tc .vmem S1x2048 .bf16) (harg4 : arg4.IsWhole) (arg5 : Memref sig .tc .vmem S1024x32 .f32) (harg5 : arg5.IsWhole) (arg6 : Memref sig .tc .vmem S1024x2048 .fp8e5m2) (harg6 : arg6.IsWhole) (arg7 : Memref sig .tc .vmem S1024x2048 .fp8e4m3) (harg7 : arg7.IsWhole) (arg8 : Memref sig .tc .vmem S1024x32 .bf16) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : cond0_1 i)
    (x0 : Vec F S1024x1 .f32) (x1 : Vec F S1x2048 .bf16) (x2 : Vec F S1024x32 .f32) (x3 : Vec F S1024x2048 .fp8e5m2) (x4 : Vec F S1024x2048 .fp8e4m3) (x5 : Vec F S1024x32 .bf16) (xs0 : Vec F S1024x1024 .f32) (y : S1024x1024.Idx) :
    ∃ pc ∈ (kernelRun0_C c i arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 x5 xs0).1 S1024x1024.size (by sl_kernel_rfl) y

/-- What case C leaves in output 6's staging buffer: its pieces read back over junk. -/
def out0_C_6 (c : Dev nD) (i : grid1.Coords) (arg3 : Memref sig .tc .vmem S1024x1 .f32) (harg3 : arg3.IsWhole) (arg4 : Memref sig .tc .vmem S1x2048 .bf16) (harg4 : arg4.IsWhole) (arg5 : Memref sig .tc .vmem S1024x32 .f32) (harg5 : arg5.IsWhole) (arg6 : Memref sig .tc .vmem S1024x2048 .fp8e5m2) (harg6 : arg6.IsWhole) (arg7 : Memref sig .tc .vmem S1024x2048 .fp8e4m3) (harg7 : arg7.IsWhole) (arg8 : Memref sig .tc .vmem S1024x32 .bf16) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : cond0_1 i)
    (x0 : Vec F S1024x1 .f32) (x1 : Vec F S1x2048 .bf16) (x2 : Vec F S1024x32 .f32) (x3 : Vec F S1024x2048 .fp8e5m2) (x4 : Vec F S1024x2048 .fp8e4m3) (x5 : Vec F S1024x32 .bf16) (xs0 : Vec F S1024x1024 .f32) : Vec F S1024x1024 .bf16 :=
  VO0_6.read (Elt F) (VO0_6.writes (Elt F) VO0_6.junk (kernelRun0_C c i arg3 harg3 arg4 harg4 arg5 harg5 arg6 harg6 arg7 harg7 arg8 harg8 arg9 harg9 arg10 harg10 hc0 hc1 x0 x1 x2 x3 x4 x5 xs0).1)

/-- Case C's pieces for scratch `arg10`, which the kernel carries between points, cover it: 1 piece of `S1024x1024` tiling it (Lib/Ring.lean `Piece.tiledL`). -/
theorem scover0_C_0 (c : Dev nD) (i : grid1.Coords) (arg3 : Memref sig .tc .vmem S1024x1 .f32) (harg3 : arg3.IsWhole) (arg4 : Memref sig .tc .vmem S1x2048 .bf16) (harg4 : arg4.IsWhole) (arg5 : Memref sig .tc .vmem S1024x32 .f32) (harg5 : arg5.IsWhole) (arg6 : Memref sig .tc .vmem S1024x2048 .fp8e5m2) (harg6 : arg6.IsWhole) (arg7 : Memref sig .tc .vmem S1024x2048 .fp8e4m3) (harg7 : arg7.IsWhole) (arg8 : Memref sig .tc .vmem S1024x32 .bf16) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : cond0_1 i)
    (x0 : Vec F S1024x1 .f32) (x1 : Vec F S1x2048 .bf16) (x2 : Vec F S1024x32 .f32) (x3 : Vec F S1024x2048 .fp8e5m2) (x4 : Vec F S1024x2048 .fp8e4m3) (x5 : Vec F S1024x32 .bf16) (xs0 : Vec F S1024x1024 .f32) (y : S1024x1024.Idx) :
    ∃ pc ∈ (kernelRun0_C c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 x5 xs0).2.1 S1024x1024.size (by sl_kernel_rfl) y

/-- What case C leaves in scratch `arg10`: its pieces read back over junk. -/
def sout0_C_0 (c : Dev nD) (i : grid1.Coords) (arg3 : Memref sig .tc .vmem S1024x1 .f32) (harg3 : arg3.IsWhole) (arg4 : Memref sig .tc .vmem S1x2048 .bf16) (harg4 : arg4.IsWhole) (arg5 : Memref sig .tc .vmem S1024x32 .f32) (harg5 : arg5.IsWhole) (arg6 : Memref sig .tc .vmem S1024x2048 .fp8e5m2) (harg6 : arg6.IsWhole) (arg7 : Memref sig .tc .vmem S1024x2048 .fp8e4m3) (harg7 : arg7.IsWhole) (arg8 : Memref sig .tc .vmem S1024x32 .bf16) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : cond0_1 i)
    (x0 : Vec F S1024x1 .f32) (x1 : Vec F S1x2048 .bf16) (x2 : Vec F S1024x32 .f32) (x3 : Vec F S1024x2048 .fp8e5m2) (x4 : Vec F S1024x2048 .fp8e4m3) (x5 : Vec F S1024x32 .bf16) (xs0 : Vec F S1024x1024 .f32) : Vec F S1024x1024 .f32 :=
  VS0_0.read (Elt F) (VS0_0.writes (Elt F) VS0_0.junk (kernelRun0_C c i arg3 harg3 arg4 harg4 arg5 harg5 arg6 harg6 arg7 harg7 arg8 harg8 arg9 harg9 arg10 harg10 hc0 hc1 x0 x1 x2 x3 x4 x5 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg1.N → Vec F S1024x1024 .bf16 × Vec F S1024x1024 .f32
  | 0, hn => (out0_A_6 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 9 = 0 then
      if h1 : (n + 1) % 9 = 8 then
        False.elim (by have hN : n + 1 < 756 := lt_of_lt_of_eq hn (show cfg1.N = 756 from N_1); omega)
      else
        (out0_A_6 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 9 = 8 then
        (out0_C_6 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_C_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)
      else
        (out0_B_6 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_B_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)

/-- `outsAt0` at a point of case A: that case's contents. -/
theorem outsAt0_A (c : Dev nD) (t : Fin cfg1.N) (h0 : t.val % 9 = 0) (h1 : ¬t.val % 9 = 8) :
    outsAt0 m c t.val t.isLt = (out0_A_6 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg1.N) (h0 : ¬t.val % 9 = 0) (h1 : ¬t.val % 9 = 8) :
    outsAt0 m c t.val t.isLt = (out0_B_6 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_B_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg1.N) (h0 : ¬t.val % 9 = 0) (h1 : t.val % 9 = 8) :
    outsAt0 m c t.val t.isLt = (out0_C_6 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_C_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg1.N → sProp 𝕄
  | 0, _ => PhiA (F := F) c
  | n + 1, hn => iprop(iprop(owns (c : Thread nD τ) scM0_0 fullShare ((outsAt0 m c n hn).2)) ∗ RestG (F := F) c)

theorem PhiS_zero (c : Dev nD) (n : ℕ) (h : n ≤ cfg1.N) (hz : n = 0) : PhiS m c n h = PhiA (F := F) c := by
  subst hz; rfl

/-- After point `n` (before point `n + 1`): the carried scratch at that point's contents. -/
theorem PhiS_succ (c : Dev nD) (n : ℕ) (hn : n < cfg1.N) :
    PhiS m c (n + 1) hn = iprop(iprop(owns (c : Thread nD τ) scM0_0 fullShare ((outsAt0 m c n hn).2)) ∗ RestG (F := F) c) := rfl

/-- Before a point that is not the first: the carried scratch at what the point before left. -/
theorem PhiS_pos (c : Dev nD) (n : ℕ) (h : n ≤ cfg1.N) (hz : n ≠ 0) :
    PhiS m c n h = iprop(iprop(owns (c : Thread nD τ) scM0_0 fullShare ((outsAt0 m c (n - 1) (by omega)).2)) ∗ RestG (F := F) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dats m 0 c).A w = V m c (Pipeline.arrRef spec1 w) := by
  dsimp only [dats]

/-- The invariant at a point's start (the proof data at `t.castSucc`), restated at `t.val`. -/
theorem PhiS_castSucc (c : Dev nD) (t : Fin cfg1.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg1.N) : (dats m 0 c).after 0 t = iblk m c 0 t := by dsimp only [dats]
theorem after0_1 (c : Dev nD) (t : Fin cfg1.N) : (dats m 0 c).after 1 t = iblk m c 1 t := by dsimp only [dats]
theorem after0_2 (c : Dev nD) (t : Fin cfg1.N) : (dats m 0 c).after 2 t = iblk m c 2 t := by dsimp only [dats]
theorem after0_3 (c : Dev nD) (t : Fin cfg1.N) : (dats m 0 c).after 3 t = iblk m c 3 t := by dsimp only [dats]
theorem after0_4 (c : Dev nD) (t : Fin cfg1.N) : (dats m 0 c).after 4 t = iblk m c 4 t := by dsimp only [dats]
theorem after0_5 (c : Dev nD) (t : Fin cfg1.N) : (dats m 0 c).after 5 t = iblk m c 5 t := by dsimp only [dats]
theorem after0_6 (c : Dev nD) (t : Fin cfg1.N) : (dats m 0 c).after 6 t = (outsAt0 m c t.val t.isLt).1 := by dsimp only [dats]

/-- Each input's current staging buffer holds its block at every point, fetched there or not (`beforeK_W_of`). -/
theorem before0_0 (c : Dev nD) (t : Fin cfg1.N) (d) : (dats m 0 c).before 0 t d = iblk m c 0 t :=
  before0_0_of m (dats m 0 c) (A_eq m c 0) (after0_0 m c) t d
theorem before0_1 (c : Dev nD) (t : Fin cfg1.N) (d) : (dats m 0 c).before 1 t d = iblk m c 1 t :=
  before0_1_of m (dats m 0 c) (A_eq m c 1) (after0_1 m c) t d
theorem before0_2 (c : Dev nD) (t : Fin cfg1.N) (d) : (dats m 0 c).before 2 t d = iblk m c 2 t :=
  before0_2_of m (dats m 0 c) (A_eq m c 2) (after0_2 m c) t d
theorem before0_3 (c : Dev nD) (t : Fin cfg1.N) (d) : (dats m 0 c).before 3 t d = iblk m c 3 t :=
  before0_3_of m (dats m 0 c) (A_eq m c 3) (after0_3 m c) t d
theorem before0_4 (c : Dev nD) (t : Fin cfg1.N) (d) : (dats m 0 c).before 4 t d = iblk m c 4 t :=
  before0_4_of m (dats m 0 c) (A_eq m c 4) (after0_4 m c) t d
theorem before0_5 (c : Dev nD) (t : Fin cfg1.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg1.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg1.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 756 := lt_of_lt_of_eq t.isLt (show cfg1.N = 756 from N_1)
  by_cases h0 : t.val % 9 = 0
  · by_cases h1 : t.val % 9 = 8
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid1.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        rw [outsAt0_A m c t h0 h1]
        unfold sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid1.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 9 = 8
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1)], after0_6]
      by_cases hz : t.val = 0
      · exfalso; have hN : t.val < 756 := lt_of_lt_of_eq t.isLt (show cfg1.N = 756 from N_1); omega
      · rw [PhiS_castSucc m c t, PhiS_pos m c _ _ hz]
        rw [outsAt0_C m c t h0 h1]
        unfold out0_C_6 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid1.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      by_cases hz : t.val = 0
      · exfalso; have hN : t.val < 756 := lt_of_lt_of_eq t.isLt (show cfg1.N = 756 from N_1); omega
      · rw [PhiS_castSucc m c t, PhiS_pos m c _ _ hz]
        rw [outsAt0_B m c t h0 h1]
        unfold sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid1.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W1, bigSep_W1, defs₀_row]
  exact triple_restated (sound_body m c t) rfl .rfl fun _ => .rfl

/-- What the launch hands the region (`ΦA`) is the invariant before the first point. -/
theorem hin (c : Dev nD) : PhiA (F := F) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dats m 0 c).Φ t ⊢ PhiA (F := F) c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg1.N) ⊢ PhiA (F := F) c :=
  Phi_out m c _ (by rw [Fin.val_last]; have : cfg1.N = 756 := N_1; omega)

end Cert.KernelIdeal.Gen.Dx

end
-- ==== Proof.KernelIdeal.Run.lean ====
/- The whole program run: its two regions among its host operations, every unscoped buffer named at the end. -/
module

public import proofs.«01_k».proof.Proof.KernelIdeal.Small.Frame
public import proofs.«01_k».proof.Proof.KernelIdeal.Dx.Frame
public import proofs.«01_k».proof.Proof.Gen.KernelIdeal.Regions
public import Idealize.ShloMosaic.Lib.Pipeline.Regions
public import Idealize.ShloMosaic.Lib.Pipeline.RegionsLoop

@[expose] public section

noncomputable section

namespace Cert.KernelIdeal.Gen.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- When region 0 is entered. -/
def V1 (c : Dev nD) : Valuation τ sig (Elt F) := StableHlo.after hostOps0 (fun b => m (c, b))

/-- The same, reference by reference. -/
def E0 (c : Dev nD) (b : Ref sig .tc) : Buf (Elt F) ((c : Thread nD τ).loc b) := V1 m c b

/-- When region 0 is left: its four outputs at what its points wrote back. -/
def V2 (c : Dev nD) : Valuation τ sig (Elt F) :=
  Function.update (Function.update (Function.update (Function.update (V1 m c)
    main_v9_0 ((Small.dats (E0 m) 0 c).arrAt 6 cfg0.N)) main_v9_1 ((Small.dats (E0 m) 0 c).arrAt 7 cfg0.N))
    main_v9_2 ((Small.dats (E0 m) 0 c).arrAt 8 cfg0.N)) main_v9_3 ((Small.dats (E0 m) 0 c).arrAt 9 cfg0.N)

/-- When region 1 is entered. -/
def V3 (c : Dev nD) : Valuation τ sig (Elt F) := StableHlo.after hostOps1 (V2 m c)

/-- The same, reference by reference. -/
def E1 (c : Dev nD) (b : Ref sig .tc) : Buf (Elt F) ((c : Thread nD τ).loc b) := V3 m c b

/-- When region 1 is left: its output at what its points wrote back. -/
def V4 (c : Dev nD) : Valuation τ sig (Elt F) :=
  Function.update (V3 m c) main_v13 ((Dx.dats (E1 m) 0 c).arrAt 6 cfg1.N)

/-- At the end. -/
def V5 (c : Dev nD) : Valuation τ sig (Elt F) := StableHlo.after hostOps2 (V4 m c)

theorem V2_3 (c : Dev nD) : V2 m c main_v9_3 = (Small.dats (E0 m) 0 c).arrAt 9 cfg0.N := by
  unfold V2; rw [Function.update_self]
theorem V2_2 (c : Dev nD) : V2 m c main_v9_2 = (Small.dats (E0 m) 0 c).arrAt 8 cfg0.N := by
  unfold V2
  rw [Function.update_of_ne (StableHlo.devRef_ne_of_ne (by decide) : (Proc.devRef .tc main_v9_2 : DevRef τ sig) ≠ Proc.devRef .tc main_v9_3), Function.update_self]
theorem V2_1 (c : Dev nD) : V2 m c main_v9_1 = (Small.dats (E0 m) 0 c).arrAt 7 cfg0.N := by
  unfold V2
  rw [Function.update_of_ne (StableHlo.devRef_ne_of_ne (by decide) : (Proc.devRef .tc main_v9_1 : DevRef τ sig) ≠ Proc.devRef .tc main_v9_3),
    Function.update_of_ne (StableHlo.devRef_ne_of_ne (by decide) : (Proc.devRef .tc main_v9_1 : DevRef τ sig) ≠ Proc.devRef .tc main_v9_2), Function.update_self]
theorem V2_0 (c : Dev nD) : V2 m c main_v9_0 = (Small.dats (E0 m) 0 c).arrAt 6 cfg0.N := by
  unfold V2
  rw [Function.update_of_ne (StableHlo.devRef_ne_of_ne (by decide) : (Proc.devRef .tc main_v9_0 : DevRef τ sig) ≠ Proc.devRef .tc main_v9_3),
    Function.update_of_ne (StableHlo.devRef_ne_of_ne (by decide) : (Proc.devRef .tc main_v9_0 : DevRef τ sig) ≠ Proc.devRef .tc main_v9_2),
    Function.update_of_ne (StableHlo.devRef_ne_of_ne (by decide) : (Proc.devRef .tc main_v9_0 : DevRef τ sig) ≠ Proc.devRef .tc main_v9_1), Function.update_self]
theorem V2_ne (c : Dev nD) (r : Ref sig .tc) (h0 : r ≠ main_v9_0) (h1 : r ≠ main_v9_1) (h2 : r ≠ main_v9_2) (h3 : r ≠ main_v9_3) :
    V2 m c r = V1 m c r := by
  unfold V2
  rw [Function.update_of_ne (StableHlo.devRef_ne_of_ne h3 : (Proc.devRef .tc r : DevRef τ sig) ≠ Proc.devRef .tc main_v9_3),
    Function.update_of_ne (StableHlo.devRef_ne_of_ne h2 : (Proc.devRef .tc r : DevRef τ sig) ≠ Proc.devRef .tc main_v9_2),
    Function.update_of_ne (StableHlo.devRef_ne_of_ne h1 : (Proc.devRef .tc r : DevRef τ sig) ≠ Proc.devRef .tc main_v9_1),
    Function.update_of_ne (StableHlo.devRef_ne_of_ne h0 : (Proc.devRef .tc r : DevRef τ sig) ≠ Proc.devRef .tc main_v9_0)]
theorem V4_13 (c : Dev nD) : V4 m c main_v13 = (Dx.dats (E1 m) 0 c).arrAt 6 cfg1.N := by
  unfold V4; rw [Function.update_self]
theorem V4_ne (c : Dev nD) (r : Ref sig .tc) (h : r ≠ main_v13) : V4 m c r = V3 m c r := by
  unfold V4; rw [Function.update_of_ne (StableHlo.devRef_ne_of_ne h : (Proc.devRef .tc r : DevRef τ sig) ≠ Proc.devRef .tc main_v13)]
theorem V1_of (c : Dev nD) (r : Ref sig .tc) (h : r ∉ hostOps0_W) : V1 m c r = m ((c : Thread nD τ).loc r) :=
  StableHlo.after_of_writes_sub hostOps0 _ hostOps0_writes h
theorem V3_of (c : Dev nD) (r : Ref sig .tc) (h : r ∉ hostOps1_W) : V3 m c r = V2 m c r :=
  StableHlo.after_of_writes_sub hostOps1 _ hostOps1_writes h
theorem V5_of (c : Dev nD) (r : Ref sig .tc) (h : r ∉ hostOps2_W) : V5 m c r = V4 m c r :=
  StableHlo.after_of_writes_sub hostOps2 _ hostOps2_writes h

/-- A buffer no item of @main writes ends as launched. -/
theorem V5_kept (c : Dev nD) (r : Ref sig .tc) (h0 : r ∉ hostOps0_W) (h1 : r ∉ hostOps1_W) (h2 : r ∉ hostOps2_W)
    (hr : r ∉ ([main_v9_0, main_v9_1, main_v9_2, main_v9_3, main_v13] : List (Ref sig .tc))) :
    V5 m c r = m ((c : Thread nD τ).loc r) := by
  simp only [List.mem_cons, List.not_mem_nil, or_false, not_or] at hr
  exact (V5_of m c r h2).trans ((V4_ne m c r hr.2.2.2.2).trans ((V3_of m c r h1).trans
    ((V2_ne m c r hr.1 hr.2.1 hr.2.2.1 hr.2.2.2.1).trans (V1_of m c r h0))))

/-! ## The regions as segments -/

/-- The two pipelines' proof data. -/
def pdats : (p : Fin 2) → (c : Dev nD) → Dat τ (Elt F) Unit ℕ (UR sig nD τ) ℕ (cfgs p) c
  | ⟨0, _⟩ => Small.dats (E0 m) 0
  | ⟨1, _⟩ => Dx.dats (E1 m) 0

/-- No semaphore of the program's own: no levels. -/
abbrev L : GSem nD τ sig → Finset Unit := fun _ => ∅
abbrev lv : GSem nD τ sig → Unit → ℕ := fun _ _ => 0

/-- What a core carries beside its buffers: the generator register at some state, and that it owes nothing. -/
abbrev R (c : Dev nD) : sProp 𝕄 :=
  iprop((∃ r, prngReg c r) ∗ ∃ W, owes (c : Thread nD τ) (0 : CellTallies nD τ sig Unit) W)

set_option backward.isDefEq.respectTransparency.types false in
/-- Region 0, entered with every unscoped buffer at `V1` and left with them at `V2`. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Small.body_obligation (E0 m) c).loose
  hwaits := Pipeline.hwaits_of_owed_zero _ _ _ _ L lv 0 fun _ _ => rfl
  pre c := iprop(unscopedBufs c (fun b => V1 m c b) ∗ R c)
  post c := iprop(unscopedBufs c (fun b => V2 m c b) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) (fun w => Small.A_eq (E0 m) c w)
    iintro ⟨⟨Hub, ⟨Hp, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Small.hin (E0 m) c)
    refine BIBase.Entails.trans ?_ (Small.enter_PhiA c)
    iintro ⟨Hp, -, Hr⟩
    isplitl [Hr]; · iexact Hr
    iexact Hp
  hout c := by
    rw [Pipeline.ownSems0_none]
    refine BIBase.Entails.trans (Small.hout (E0 m) c) ?_
    refine BIBase.Entails.trans (Small.leave_PhiA c) ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (fun b => V1 m c b) (fun b => V2 m c b) ((pdats m 0 c).arrAt · cfg0.N)
      (fun w => by
        match w with
        | ⟨0, _⟩ => exact (((pdats m 0 c).arrAt_in 0 rfl _).trans (Small.A_eq (E0 m) c 0)).trans (V2_ne m c _ (by decide) (by decide) (by decide) (by decide)).symm
        | ⟨1, _⟩ => exact (((pdats m 0 c).arrAt_in 1 rfl _).trans (Small.A_eq (E0 m) c 1)).trans (V2_ne m c _ (by decide) (by decide) (by decide) (by decide)).symm
        | ⟨2, _⟩ => exact (((pdats m 0 c).arrAt_in 2 rfl _).trans (Small.A_eq (E0 m) c 2)).trans (V2_ne m c _ (by decide) (by decide) (by decide) (by decide)).symm
        | ⟨3, _⟩ => exact (((pdats m 0 c).arrAt_in 3 rfl _).trans (Small.A_eq (E0 m) c 3)).trans (V2_ne m c _ (by decide) (by decide) (by decide) (by decide)).symm
        | ⟨4, _⟩ => exact (((pdats m 0 c).arrAt_in 4 rfl _).trans (Small.A_eq (E0 m) c 4)).trans (V2_ne m c _ (by decide) (by decide) (by decide) (by decide)).symm
        | ⟨5, _⟩ => exact (((pdats m 0 c).arrAt_in 5 rfl _).trans (Small.A_eq (E0 m) c 5)).trans (V2_ne m c _ (by decide) (by decide) (by decide) (by decide)).symm
        | ⟨6, _⟩ => exact (V2_0 m c).symm
        | ⟨7, _⟩ => exact (V2_1 m c).symm
        | ⟨8, _⟩ => exact (V2_2 m c).symm
        | ⟨9, _⟩ => exact (V2_3 m c).symm)
      (fun b hb => V2_ne m c b (fun h => hb (h ▸ Finset.mem_image.mpr ⟨6, Finset.mem_univ _, rfl⟩)) (fun h => hb (h ▸ Finset.mem_image.mpr ⟨7, Finset.mem_univ _, rfl⟩))
        (fun h => hb (h ▸ Finset.mem_image.mpr ⟨8, Finset.mem_univ _, rfl⟩)) (fun h => hb (h ▸ Finset.mem_image.mpr ⟨9, Finset.mem_univ _, rfl⟩)))
    iintro ⟨Ha, HO, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Region 1, entered with every unscoped buffer at `V3` and left with them at `V4`. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Dx.body_obligation (E1 m) c).loose
  hwaits := Pipeline.hwaits_of_owed_zero _ _ _ _ L lv 1 fun _ _ => rfl
  pre c := iprop(unscopedBufs c (fun b => V3 m c b) ∗ R c)
  post c := iprop(unscopedBufs c (fun b => V4 m c b) ∗ R c)
  X c := iprop(∃ r, prngReg c r)
  Y c := iprop(∃ r, prngReg c r)
  Z c := Pipeline.unscopedRest (Ix := Unit) (Name := ℕ) (U := UR sig nD τ) (Lvl := ℕ) spec1 c (fun b => V3 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V3 m c b) (fun w => Dx.A_eq (E1 m) c w)
    iintro ⟨⟨Hub, ⟨Hp, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Dx.hin (E1 m) c)
    refine BIBase.Entails.trans ?_ (Dx.enter_PhiA c)
    iintro ⟨Hp, -, Hr⟩
    isplitl [Hr]; · iexact Hr
    iexact Hp
  hout c := by
    rw [Pipeline.ownSems0_none]
    refine BIBase.Entails.trans (Dx.hout (E1 m) c) ?_
    refine BIBase.Entails.trans (Dx.leave_PhiA c) ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (fun b => V3 m c b) (fun b => V4 m c b) ((pdats m 1 c).arrAt · cfg1.N)
      (fun w => by
        match w with
        | ⟨0, _⟩ => exact (((pdats m 1 c).arrAt_in 0 rfl _).trans (Dx.A_eq (E1 m) c 0)).trans (V4_ne m c _ (by decide)).symm
        | ⟨1, _⟩ => exact (((pdats m 1 c).arrAt_in 1 rfl _).trans (Dx.A_eq (E1 m) c 1)).trans (V4_ne m c _ (by decide)).symm
        | ⟨2, _⟩ => exact (((pdats m 1 c).arrAt_in 2 rfl _).trans (Dx.A_eq (E1 m) c 2)).trans (V4_ne m c _ (by decide)).symm
        | ⟨3, _⟩ => exact (((pdats m 1 c).arrAt_in 3 rfl _).trans (Dx.A_eq (E1 m) c 3)).trans (V4_ne m c _ (by decide)).symm
        | ⟨4, _⟩ => exact (((pdats m 1 c).arrAt_in 4 rfl _).trans (Dx.A_eq (E1 m) c 4)).trans (V4_ne m c _ (by decide)).symm
        | ⟨5, _⟩ => exact (((pdats m 1 c).arrAt_in 5 rfl _).trans (Dx.A_eq (E1 m) c 5)).trans (V4_ne m c _ (by decide)).symm
        | ⟨6, _⟩ => exact (V4_13 m c).symm)
      (fun b hb => V4_ne m c b (fun h => hb (h ▸ Finset.mem_image.mpr ⟨6, Finset.mem_univ _, rfl⟩)))
    iintro ⟨Ha, HO, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## @main as its segments -/

def seg0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (fun c b => m (c, b)) (R (F := F))
def seg2 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) (R (F := F))
def seg4 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V4 m) (R (F := F))

abbrev segs (c : Dev nD) : List (Seg (pcfgs (F := F)) adm (pdats m) () defs₀ Variants.none L lv) :=
  [.host (seg0 m), .region (reg0 m), .host (seg2 m), .region (reg1 m), .host (seg4 m)]

-- the kit's implicit arguments are found by unifying its conclusion with this one, which takes unfolding plain definitions
-- in a metavariable's type
set_option backward.isDefEq.respectTransparency.types false in
/-- Every weakly fair execution of @main from memory `m` with zero counters terminates, and every final state has every
    unscoped buffer of every core at `V5` and every semaphore counter at zero. -/
theorem run_all : θ_run defs (onTc (τ := τ) (main (F := F))) ⟨m, fun _ => 0, ρ⟩ (fun r =>
    (∀ (c : Dev nD) (b : Ref sig .tc), (Proc.devRef .tc b : DevRef τ sig) ∈ Pipeline.ucRefs τ sig → r.2.mem ((c : Thread nD τ).loc b) = V5 m c b)
      ∧ r.2.sem = fun _ => 0) := by
  refine Pipeline.θ_run_regions_kit_dev_sems (pcfgs (F := F)) adm (pdats m) () cellOf_inj emb₁ defs₀ Variants.none L lv m ρ main
    (segs m)
    (fun c Q => by
      rewrite [main_chain c, Seg.run_eq_chain,
        show (segs m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) 0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c))
    (Tₙ := fun c => StableHlo.held (c : Thread nD τ) (Pipeline.ucRefs τ sig) (V5 m c))
    (hch := fun c => ⟨.rfl,
      (show iprop(StableHlo.held (c : Thread nD τ) (Pipeline.ucRefs τ sig) (V1 m c) ∗ R c) ⊢ (reg0 m).pre c from by
        rw [← Pipeline.unscopedBufs_held (Ix := Unit) (Name := ℕ) (U := UR sig nD τ) (Lvl := ℕ) c (V1 m c)]; exact BI.Entails.refl _),
      (show (reg0 m).post c ⊢ iprop(StableHlo.held (c : Thread nD τ) (Pipeline.ucRefs τ sig) (V2 m c) ∗ R c) from by
        rw [← Pipeline.unscopedBufs_held (Ix := Unit) (Name := ℕ) (U := UR sig nD τ) (Lvl := ℕ) c (V2 m c)]; exact BI.Entails.refl _),
      (show iprop(StableHlo.held (c : Thread nD τ) (Pipeline.ucRefs τ sig) (V3 m c) ∗ R c) ⊢ (reg1 m).pre c from by
        rw [← Pipeline.unscopedBufs_held (Ix := Unit) (Name := ℕ) (U := UR sig nD τ) (Lvl := ℕ) c (V3 m c)]; exact BI.Entails.refl _),
      (show (reg1 m).post c ⊢ iprop(StableHlo.held (c : Thread nD τ) (Pipeline.ucRefs τ sig) (V4 m c) ∗ R c) from by
        rw [← Pipeline.unscopedBufs_held (Ix := Unit) (Name := ℕ) (U := UR sig nD τ) (Lvl := ℕ) c (V4 m c)]; exact BI.Entails.refl _),
      sep_mono .rfl (show R c ⊢ iprop(∃ W, owes (c : Thread nD τ) (0 : CellTallies nD τ sig Unit) W) from by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (fun b => m (c, b)) from
        Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b : Ref sig .tc, (Proc.devRef .tc b : DevRef τ sig) ∈ Pipeline.ucRefs τ sig → s.mem ((c : Thread nD τ).loc b) = V5 m c b)
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V5 m c) s') $$ [Hh HSI]
  · isplitl [Hh] <;> iassumption
  icases Hr with ⟨%h, HSI⟩
  imodintro
  isplitr
  · ipureintro
    exact fun b hb => h (Proc.devRef .tc b) hb
  · iexact HSI

/-- An unscoped reference is among those read at the end. -/
theorem mem_uc (b : Ref sig .tc) (h : ¬ (Proc.devRef .tc b : DevRef τ sig).isScoped = true) : (Proc.devRef .tc b : DevRef τ sig) ∈ Pipeline.ucRefs τ sig :=
  Finset.mem_filter.mpr ⟨StableHlo.devRef_mem_tcRefs b, h⟩

/-- THE FRAME: the program terminates, its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨
      (h.1 c main_arg0 (mem_uc _ (by decide))).trans (V5_kept m c _ (by decide) (by decide) (by decide) (by decide)),
      (h.1 c main_arg1 (mem_uc _ (by decide))).trans (V5_kept m c _ (by decide) (by decide) (by decide) (by decide)),
      (h.1 c main_arg2 (mem_uc _ (by decide))).trans (V5_kept m c _ (by decide) (by decide) (by decide) (by decide)),
      (h.1 c main_arg3 (mem_uc _ (by decide))).trans (V5_kept m c _ (by decide) (by decide) (by decide) (by decide)),
      (h.1 c main_arg4 (mem_uc _ (by decide))).trans (V5_kept m c _ (by decide) (by decide) (by decide) (by decide)),
      (h.1 c main_arg5 (mem_uc _ (by decide))).trans (V5_kept m c _ (by decide) (by decide) (by decide) (by decide)),
      (h.1 c main_arg6 (mem_uc _ (by decide))).trans (V5_kept m c _ (by decide) (by decide) (by decide) (by decide)),
      (h.1 c main_arg7 (mem_uc _ (by decide))).trans (V5_kept m c _ (by decide) (by decide) (by decide) (by decide))⟩, h.2⟩)
    (run_all m ρ)

end Cert.KernelIdeal.Gen.Whole

end
-- ==== Proof.Same.lean ====
/- The program as it is printed at the bit-exact instance and the ideal program are one program: no operation was rewritten, so the frame of the second,
   proved for every float instance, is the frame of the first. -/
module

public import proofs.«01_k».proof.Defs
public import proofs.«01_k».proof.Proof.Gen.Kernel
public import proofs.«01_k».proof.Proof.Gen.KernelIdeal
public import proofs.«01_k».proof.Proof.KernelIdeal.Run

@[expose] public section

set_option maxRecDepth 100000

noncomputable section

namespace Cert.Proof

open Idealize.ShloMosaic Idealize.SL.Sem

set_option maxHeartbeats 4000000 in
/-- The two programs' kernel bodies are one table. -/
theorem bodies_eq : @Cert.Kernel.defs₀ Bits _ _ = @Cert.KernelIdeal.defs₀ Bits _ _ := by
  unfold Cert.Kernel.defs₀ Cert.KernelIdeal.defs₀
  congr 1
  funext l a
  match l, a with
  | ⟨0, _⟩, (t, s) => with_unfolding_all rfl
  | ⟨1, _⟩, (t, s) => with_unfolding_all rfl

set_option maxHeartbeats 4000000 in
/-- So are their procedures, the pipelines among them. -/
theorem defs_eq : @Cert.Kernel.defs Bits _ _ = @Cert.KernelIdeal.defs Bits _ _ := by
  unfold Cert.Kernel.defs Cert.KernelIdeal.defs
  rw [bodies_eq]
  with_unfolding_all rfl

set_option maxHeartbeats 4000000 in
/-- And so are their host programs. -/
theorem main_eq : @Cert.Kernel.main Bits _ _ = @Cert.KernelIdeal.main Bits _ _ := by
  with_unfolding_all rfl

set_option maxHeartbeats 4000000 in
/-- The kernel, bit exact, terminates without fault, its arguments unchanged and every counter at zero. -/
theorem kernel_frame : Cert.quiescent_Kernel := by
  intro m g _
  rw [defs_eq, main_eq]
  with_unfolding_all exact Cert.KernelIdeal.Gen.Whole.frame (F := Bits) m g

end Cert.Proof

end
-- ==== Proof.Value.Limbs.lean ====
/- Three-limb sums of products, in the extended reals. -/
module

public import Idealize.ShloMosaic.Lib.Pointwise
public import Idealize.ShloMosaic.Lib.Pipeline.ValueKit
public import Idealize.ShloMosaic.Lib.Pipeline.Covers
public import Idealize.ShloMosaic.Lib.Pipeline.ReadBack

@[expose] public section

set_option maxRecDepth 16384

noncomputable section
open Idealize.ShloMosaic Idealize.ShloMosaic.TcCoe

namespace Cert.Val

/-- The constant two of the programs. -/
abbrev two : EReal := Ideal.ofBits FTy.f32 0x40000000#32

/-- A sum of products whose left operands come in three limbs, limb by limb. -/
def limbs {n : Nat} (f g : Fin n → EReal) : EReal :=
  (∑ p, f p * g p) + (∑ p, (f p - f p) * g p) + ∑ p, (f p - f p - (f p - f p)) * g p

/-- A number that is neither infinity. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩

theorem IsReal.sum {n : Nat} {f : Fin n → EReal} (h : ∀ p, IsReal (f p)) : IsReal (∑ p, f p) :=
  Finset.sum_induction f IsReal (fun _ _ ⟨a, ha⟩ ⟨b, hb⟩ => ⟨a + b, by rw [ha, hb, EReal.coe_add]⟩) ⟨0, EReal.coe_zero.symm⟩ fun p _ => h p

theorem coe_sum {n : Nat} (f : Fin n → ℝ) : ((∑ p, f p : ℝ) : EReal) = ∑ p, (f p : EReal) := by
  induction n with
  | zero => simp
  | succ n ih => rw [Fin.sum_univ_succ, Fin.sum_univ_succ, EReal.coe_add, ih]

theorem IsReal.sub_self {x : EReal} : IsReal x → x - x = 0
  | ⟨a, ha⟩ => by rw [ha, ← EReal.coe_sub, _root_.sub_self, EReal.coe_zero]

theorem isReal_two : IsReal two := ⟨2, by unfold two; simp [Ideal.ofBits, Ideal.ieee, -EReal.coe_mul]; norm_num⟩

/-- Of finite left operands the middle and the low limb are zero, so the three limbs give the plain sum of products. -/
theorem limbs_eq {n : Nat} {f : Fin n → EReal} (g : Fin n → EReal) (h : ∀ p, IsReal (f p)) : limbs f g = ∑ p, f p * g p := by
  unfold limbs
  have e : ∀ p, f p - f p = 0 := fun p => (h p).sub_self
  have z : (0 : EReal) - 0 = 0 := IsReal.sub_self ⟨0, EReal.coe_zero.symm⟩
  simp only [e, z, zero_mul, Finset.sum_const_zero, add_zero]

/-- A finite factor of every left operand comes out of a sum of finite products. -/
theorem sum_mul_two {n : Nat} {f g : Fin n → EReal} {x : EReal} (hx : IsReal x) (hf : ∀ p, IsReal (f p)) (hg : ∀ p, IsReal (g p)) :
    ∑ p, f p * x * g p = x * ∑ p, f p * g p := by
  choose f' hf using hf
  choose g' hg using hg
  obtain ⟨x', rfl⟩ := hx
  simp only [hf, hg, ← EReal.coe_mul, ← coe_sum]
  congr 1
  rw [Finset.mul_sum]
  exact Finset.sum_congr rfl fun p _ => by ring

theorem limbs_congr {n : Nat} {f f' g g' : Fin n → EReal} (hf : ∀ p, f p = f' p) (hg : ∀ p, g p = g' p) : limbs f g = limbs f' g' := by
  rw [funext hf, funext hg]

theorem add_limbs {n : Nat} {a a' : EReal} {f f' g g' : Fin n → EReal} (h : a = a') (hf : ∀ p, f p = f' p) (hg : ∀ p, g p = g' p) :
    a + limbs f g = a' + limbs f' g' := by
  rw [h, funext hf, funext hg]

/-- A sum over three times thirty-two indices, third by third. -/
theorem sum96 (f : Fin 96 → EReal) : ∑ x : Fin 96, f x =
    (∑ r : Fin 32, f ⟨r.val, by omega⟩) + (∑ r : Fin 32, f ⟨32 + r.val, by omega⟩) + ∑ r : Fin 32, f ⟨64 + r.val, by omega⟩ := by
  refine (Fin.sum_univ_add (a := 64) (b := 32) f).trans ?_
  congr 1
  exact Fin.sum_univ_add (a := 32) (b := 32) (fun x => f (Fin.castAdd 32 x))

end Cert.Val
-- ==== Proof.Value.Spec.lean ====
/- The results as closed formulas of the argument arrays. -/
module

public import proofs.«01_k».proof.Proof.Value.Limbs

@[expose] public section

set_option maxRecDepth 16384

noncomputable section
open Idealize.ShloMosaic Idealize.ShloMosaic.TcCoe

namespace Cert.Val

/-- The token matrix and the output gradient that the codes of the arguments denote. -/
def X (x : (⟨3, ![3, 4096, 7168]⟩ : Shape).Idx → BitVec 8) (q : Fin 3) (p : Fin 4096) (k : Fin 7168) : EReal :=
  Ideal.ofBits .fp8e4m3 (x (ix3 q p k))
def DY (dy : (⟨3, ![3, 4096, 18432]⟩ : Shape).Idx → BitVec 8) (q : Fin 3) (p : Fin 4096) (k : Fin 18432) : EReal :=
  Ideal.ofBits .fp8e5m2 (dy (ix3 q p k))

variable (x : (⟨3, ![3, 4096, 7168]⟩ : Shape).Idx → BitVec 8) (xs : (⟨2, ![3, 4096]⟩ : Shape).Idx → EReal)
  (dy : (⟨3, ![3, 4096, 18432]⟩ : Shape).Idx → BitVec 8) (dys : (⟨2, ![3, 4096]⟩ : Shape).Idx → EReal)
  (w : (⟨2, ![7168, 18432]⟩ : Shape).Idx → EReal) (ws : (⟨1, ![18432]⟩ : Shape).Idx → EReal)
  (a : (⟨2, ![7168, 32]⟩ : Shape).Idx → EReal) (b : (⟨2, ![32, 18432]⟩ : Shape).Idx → EReal)

/-- The output gradient through the second adapter matrix, under the token's scale. -/
def T (q : Fin 3) (p : Fin 4096) (r : Fin 32) : EReal := (∑ k, DY dy q p k * b (ix2 r k)) * dys (ix2 q p)

/-- The tokens through the first adapter matrix, under the token's scale. -/
def XA (q : Fin 3) (p : Fin 4096) (r : Fin 32) : EReal := (∑ k, X x q p k * a (ix2 k r)) * xs (ix2 q p)

/-- The gradient of the first adapter matrix. -/
def DA (j : Fin 7168) (r : Fin 32) : EReal := two * ∑ q, ∑ p, X x q p j * (xs (ix2 q p) * T dy dys b q p r)

/-- The gradient of the second. -/
def DB (r : Fin 32) (j : Fin 18432) : EReal := two * ∑ q, ∑ p, XA x xs a q p r * dys (ix2 q p) * DY dy q p j

/-- The gradient of the tokens. -/
def DX (q : Fin 3) (p : Fin 4096) (j : Fin 7168) : EReal :=
  (∑ k, DY dy q p k * (w (ix2 j k) * ws (ix1 k))) * dys (ix2 q p) + two * ∑ r, T dy dys b q p r * a (ix2 j r)

/-! ## Equal arguments give equal results -/

theorem T_congr {dy dy' : (⟨3, ![3, 4096, 18432]⟩ : Shape).Idx → BitVec 8} {dys dys' : (⟨2, ![3, 4096]⟩ : Shape).Idx → EReal} {b b' : (⟨2, ![32, 18432]⟩ : Shape).Idx → EReal}
    (hdy : dy = dy') (hdys : dys = dys') (hb : b = b') : T dy dys b = T dy' dys' b' := by
  subst hdy hdys hb
  rfl

theorem XA_congr {x x' : (⟨3, ![3, 4096, 7168]⟩ : Shape).Idx → BitVec 8} {xs xs' : (⟨2, ![3, 4096]⟩ : Shape).Idx → EReal} {a a' : (⟨2, ![7168, 32]⟩ : Shape).Idx → EReal}
    (hx : x = x') (hxs : xs = xs') (ha : a = a') : XA x xs a = XA x' xs' a' := by
  subst hx hxs ha
  rfl

theorem DA_congr {x x' : (⟨3, ![3, 4096, 7168]⟩ : Shape).Idx → BitVec 8} {xs xs' : (⟨2, ![3, 4096]⟩ : Shape).Idx → EReal} {dy dy' : (⟨3, ![3, 4096, 18432]⟩ : Shape).Idx → BitVec 8} {dys dys' : (⟨2, ![3, 4096]⟩ : Shape).Idx → EReal} {b b' : (⟨2, ![32, 18432]⟩ : Shape).Idx → EReal}
    (hx : x = x') (hxs : xs = xs') (hdy : dy = dy') (hdys : dys = dys') (hb : b = b') : DA x xs dy dys b = DA x' xs' dy' dys' b' := by
  subst hx hxs hdy hdys hb
  rfl

theorem DB_congr {x x' : (⟨3, ![3, 4096, 7168]⟩ : Shape).Idx → BitVec 8} {xs xs' : (⟨2, ![3, 4096]⟩ : Shape).Idx → EReal} {dy dy' : (⟨3, ![3, 4096, 18432]⟩ : Shape).Idx → BitVec 8} {dys dys' : (⟨2, ![3, 4096]⟩ : Shape).Idx → EReal} {a a' : (⟨2, ![7168, 32]⟩ : Shape).Idx → EReal}
    (hx : x = x') (hxs : xs = xs') (hdy : dy = dy') (hdys : dys = dys') (ha : a = a') : DB x xs dy dys a = DB x' xs' dy' dys' a' := by
  subst hx hxs hdy hdys ha
  rfl

theorem DX_congr {dy dy' : (⟨3, ![3, 4096, 18432]⟩ : Shape).Idx → BitVec 8} {dys dys' : (⟨2, ![3, 4096]⟩ : Shape).Idx → EReal} {w w' : (⟨2, ![7168, 18432]⟩ : Shape).Idx → EReal} {ws ws' : (⟨1, ![18432]⟩ : Shape).Idx → EReal} {a a' : (⟨2, ![7168, 32]⟩ : Shape).Idx → EReal} {b b' : (⟨2, ![32, 18432]⟩ : Shape).Idx → EReal}
    (hdy : dy = dy') (hdys : dys = dys') (hw : w = w') (hws : ws = ws') (ha : a = a') (hb : b = b') : DX dy dys w ws a b = DX dy' dys' w' ws' a' b' := by
  subst hdy hdys hw hws ha hb
  rfl

end Cert.Val
-- ==== Proof.Value.Ref.lean ====
/- The reference's five results, entry by entry. -/
module

public import proofs.«01_k».proof.Proof.Gen.ReferenceIdeal.Value
public import proofs.«01_k».proof.Proof.Value.Spec
public import Idealize.ShloMosaic.Lib.Pointwise
public import Idealize.ShloMosaic.Lib.Pipeline.ValueKit
public import Idealize.ShloMosaic.Lib.Claim

@[expose] public section

set_option maxRecDepth 16384

noncomputable section
open Idealize.ShloMosaic Idealize.ShloMosaic.TcCoe

namespace Cert.ReferenceIdeal.Val
open Cert.ReferenceIdeal Cert.ReferenceIdeal.Gen Cert.Val

theorem pay6 (dy : Vec Ideal S3x4096x18432 .fp8e5m2) (dys : Vec Ideal S3x4096 .f32) (b : Vec Ideal S32x18432 .bf16) (q : Fin 3) (p : Fin 4096) (r : Fin 32) :
    k0_pay6 (F := Ideal) dy dys b (ix3 q p r) = (∑ k : Fin 18432, dy (ix3 q p k) * b (ix2 r k)) * dys (ix2 q p) := by
  pointwise [k0_pay6, k0_pay5, k0_pay4]

theorem pay7 (x : Vec Ideal S3x4096x7168 .fp8e4m3) (xs : Vec Ideal S3x4096 .f32) (a : Vec Ideal S7168x32 .bf16) (q : Fin 3) (p : Fin 4096) (r : Fin 32) :
    k0_pay7 (F := Ideal) x xs a (ix3 q p r) = (∑ k : Fin 7168, x (ix3 q p k) * a (ix2 k r)) * xs (ix2 q p) := by
  pointwise [k0_pay7, k0_pay3]

theorem pay1 (t : Vec Ideal S3x4096x32 .f32) (x : Vec Ideal S3x4096x7168 .fp8e4m3) (xs : Vec Ideal S3x4096 .f32) (j : Fin 7168) (r : Fin 32) :
    k0_pay1 (F := Ideal) t (k0_pay9 x) (k0_pay10 xs) (ix2 j r) = two * ∑ q : Fin 3, ∑ p : Fin 4096, x (ix3 q p j) * (xs (ix2 q p) * t (ix3 q p r)) := by
  pointwise [k0_pay1, k0_pay9, k0_pay10, k0_pay3]

theorem pay2 (dy : Vec Ideal S3x4096x18432 .fp8e5m2) (dys : Vec Ideal S3x4096 .f32) (xa : Vec Ideal S3x4096x32 .f32) (j : Fin 18432) (r : Fin 32) :
    k0_pay2 (F := Ideal) (k0_pay4 dy) dys xa (ix2 r j) = two * ∑ q : Fin 3, ∑ p : Fin 4096, xa (ix3 q p r) * dys (ix2 q p) * dy (ix3 q p j) := by
  pointwise [k0_pay2, k0_pay4]

theorem pay8 (dy : Vec Ideal S3x4096x18432 .fp8e5m2) (dys : Vec Ideal S3x4096 .f32) (w : Vec Ideal S7168x18432 .fp8e4m3) (ws : Vec Ideal S18432 .f32)
    (a : Vec Ideal S7168x32 .bf16) (b : Vec Ideal S32x18432 .bf16) (q : Fin 3) (p : Fin 4096) (j : Fin 7168) :
    k0_pay8 (F := Ideal) dy dys w ws a b (ix3 q p j) = (∑ k : Fin 18432, dy (ix3 q p k) * (w (ix2 j k) * ws (ix1 k))) * dys (ix2 q p)
      + two * ∑ r : Fin 32, k0_pay6 (F := Ideal) dy dys b (ix3 q p r) * a (ix2 j r) := by
  pointwise [k0_pay8, k0_pay6, k0_pay5, k0_pay4]

variable (m : (ℓ : Loc nD τ sig) → Buf (Elt Ideal) ℓ)

/-- The one point reads every operand whole. -/
theorem idx : win0_0.index t0_0 = ![0, 0, 0] ∧ win0_1.index t0_0 = ![0, 0] ∧ win0_2.index t0_0 = ![0, 0, 0] ∧ win0_3.index t0_0 = ![0, 0] ∧ win0_4.index t0_0 = ![0, 0] ∧ win0_5.index t0_0 = ![0] ∧ win0_6.index t0_0 = ![0, 0] ∧ win0_7.index t0_0 = ![0, 0] ∧ win0_8.index t0_0 = ![0, 0, 0] ∧ win0_9.index t0_0 = ![0, 0] ∧ win0_10.index t0_0 = ![0, 0] ∧ win0_11.index t0_0 = ![0, 0, 0] ∧ win0_12.index t0_0 = ![0, 0, 0] := by
  decide +kernel

/-- The tokens' block is the argument, its codes read as numbers. -/
theorem xI (c : Dev nD) (q : Fin 3) (p : Fin 4096) (k : Fin 7168) :
    (iblk m c 0 t0_0 : Vec Ideal S3x4096x7168 .fp8e4m3) (ix3 q p k) = X (m ((c : Thread nD τ).loc main_arg0)) q p k := by
  blk_ext [iblk, idx]

theorem xsI (c : Dev nD) (q : Fin 3) (p : Fin 4096) :
    (iblk m c 1 t0_0 : Vec Ideal S3x4096 .f32) (ix2 q p) = (m ((c : Thread nD τ).loc main_arg1) : Vec Ideal S3x4096 .f32) (ix2 q p) := by
  blk_ext [iblk, idx]

/-- The gradient's block is the argument, its codes read as numbers. -/
theorem dyI (c : Dev nD) (q : Fin 3) (p : Fin 4096) (k : Fin 18432) :
    (iblk m c 2 t0_0 : Vec Ideal S3x4096x18432 .fp8e5m2) (ix3 q p k) = DY (m ((c : Thread nD τ).loc main_arg2)) q p k := by
  blk_ext [iblk, idx]

theorem dysI (c : Dev nD) (q : Fin 3) (p : Fin 4096) :
    (iblk m c 3 t0_0 : Vec Ideal S3x4096 .f32) (ix2 q p) = (m ((c : Thread nD τ).loc main_arg3) : Vec Ideal S3x4096 .f32) (ix2 q p) := by
  blk_ext [iblk, idx]

theorem wI (c : Dev nD) (j : Fin 7168) (k : Fin 18432) :
    (iblk m c 4 t0_0 : Vec Ideal S7168x18432 .fp8e4m3) (ix2 j k) = (m ((c : Thread nD τ).loc main_arg4) : Vec Ideal S7168x18432 .fp8e4m3) (ix2 j k) := by
  blk_ext [iblk, idx]

theorem wsI (c : Dev nD) (k : Fin 18432) :
    (iblk m c 5 t0_0 : Vec Ideal S18432 .f32) (ix1 k) = (m ((c : Thread nD τ).loc main_arg5) : Vec Ideal S18432 .f32) (ix1 k) := by
  blk_ext [iblk, idx]

theorem aI (c : Dev nD) (j : Fin 7168) (r : Fin 32) :
    (iblk m c 6 t0_0 : Vec Ideal S7168x32 .bf16) (ix2 j r) = (m ((c : Thread nD τ).loc main_arg6) : Vec Ideal S7168x32 .bf16) (ix2 j r) := by
  blk_ext [iblk, idx]

theorem bI (c : Dev nD) (r : Fin 32) (k : Fin 18432) :
    (iblk m c 7 t0_0 : Vec Ideal S32x18432 .bf16) (ix2 r k) = (m ((c : Thread nD τ).loc main_arg7) : Vec Ideal S32x18432 .bf16) (ix2 r k) := by
  blk_ext [iblk, idx]

/-- The small activation gradient that the body computes. -/
theorem t_at (c : Dev nD) (q : Fin 3) (p : Fin 4096) (r : Fin 32) :
    k0_pay11 (F := Ideal) (iblk m c 0 t0_0) (iblk m c 1 t0_0) (iblk m c 2 t0_0) (iblk m c 3 t0_0) (iblk m c 4 t0_0) (iblk m c 5 t0_0) (iblk m c 6 t0_0) (iblk m c 7 t0_0) (ix3 q p r)
      = Cert.Val.T (m ((c : Thread nD τ).loc main_arg2)) (m ((c : Thread nD τ).loc main_arg3)) (m ((c : Thread nD τ).loc main_arg7)) q p r := by
  unfold k0_pay11
  frame_out
  refine (pay6 (iblk m c 2 t0_0) (iblk m c 3 t0_0) (iblk m c 7 t0_0) q p r).trans ?_
  simp only [Cert.Val.T, dyI, dysI, bI]

/-- The small activation that the body computes. -/
theorem xa_at (c : Dev nD) (q : Fin 3) (p : Fin 4096) (r : Fin 32) :
    k0_pay12 (F := Ideal) (iblk m c 0 t0_0) (iblk m c 1 t0_0) (iblk m c 2 t0_0) (iblk m c 3 t0_0) (iblk m c 4 t0_0) (iblk m c 5 t0_0) (iblk m c 6 t0_0) (iblk m c 7 t0_0) (ix3 q p r)
      = XA (m ((c : Thread nD τ).loc main_arg0)) (m ((c : Thread nD τ).loc main_arg1)) (m ((c : Thread nD τ).loc main_arg6)) q p r := by
  unfold k0_pay12
  frame_out
  refine (pay7 (iblk m c 0 t0_0) (iblk m c 1 t0_0) (iblk m c 6 t0_0) q p r).trans ?_
  simp only [XA, xI, xsI, aI]

/-- Result 4 of the reference. -/
theorem arr11 (c : Dev nD) : (dats m 0 c).arrAt 11 cfg0.N = fun y : S3x4096x32.Idx =>
    T (m ((c : Thread nD τ).loc main_arg2)) (m ((c : Thread nD τ).loc main_arg3)) (m ((c : Thread nD τ).loc main_arg7)) (y 0) (y 1) (y 2) := by
  refine (dats m 0 c).arrAt_eq_of_after_last 11 t0_0 (by decide +kernel) _ fun y => ?_
  rw [after0_11]
  unfold out0_11
  frame_out
  obtain ⟨q, p, r, rfl⟩ : ∃ (q : Fin 3) (p : Fin 4096) (r : Fin 32), y = ix3 q p r := ⟨y 0, y 1, y 2, eq_ix3 y⟩
  refine Eq.trans ?_ (show T _ _ _ q p r = _ from congr (congrArg₂ _ (Fin.ext (by blk_simp [idx])) (Fin.ext (by blk_simp [idx]))) (Fin.ext (by blk_simp [idx])))
  exact t_at m c q p r

/-- Result 5 of the reference. -/
theorem arr12 (c : Dev nD) : (dats m 0 c).arrAt 12 cfg0.N = fun y : S3x4096x32.Idx =>
    XA (m ((c : Thread nD τ).loc main_arg0)) (m ((c : Thread nD τ).loc main_arg1)) (m ((c : Thread nD τ).loc main_arg6)) (y 0) (y 1) (y 2) := by
  refine (dats m 0 c).arrAt_eq_of_after_last 12 t0_0 (by decide +kernel) _ fun y => ?_
  rw [after0_12]
  unfold out0_12
  frame_out
  obtain ⟨q, p, r, rfl⟩ : ∃ (q : Fin 3) (p : Fin 4096) (r : Fin 32), y = ix3 q p r := ⟨y 0, y 1, y 2, eq_ix3 y⟩
  refine Eq.trans ?_ (show XA _ _ _ q p r = _ from congr (congrArg₂ _ (Fin.ext (by blk_simp [idx])) (Fin.ext (by blk_simp [idx]))) (Fin.ext (by blk_simp [idx])))
  exact xa_at m c q p r

/-- Result 1 of the reference. -/
theorem arr8 (c : Dev nD) : (dats m 0 c).arrAt 8 cfg0.N = fun y : S3x4096x7168.Idx =>
    DX (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (y 0) (y 1) (y 2) := by
  refine (dats m 0 c).arrAt_eq_of_after_last 8 t0_0 (by decide +kernel) _ fun y => ?_
  rw [after0_8]
  unfold out0_8
  frame_out
  obtain ⟨q, p, j, rfl⟩ : ∃ (q : Fin 3) (p : Fin 4096) (j : Fin 7168), y = ix3 q p j := ⟨y 0, y 1, y 2, eq_ix3 y⟩
  refine Eq.trans ?_ (show DX _ _ _ _ _ _ q p j = _ from congr (congrArg₂ _ (Fin.ext (by blk_simp [idx])) (Fin.ext (by blk_simp [idx]))) (Fin.ext (by blk_simp [idx])))
  refine (pay8 (iblk m c 2 t0_0) (iblk m c 3 t0_0) (iblk m c 4 t0_0) (iblk m c 5 t0_0) (iblk m c 6 t0_0) (iblk m c 7 t0_0) q p j).trans ?_
  simp only [DX, Cert.Val.T, pay6, dyI, dysI, bI, wI, wsI, aI]

/-- Result 2 of the reference. -/
theorem arr9 (c : Dev nD) : (dats m 0 c).arrAt 9 cfg0.N = fun y : S7168x32.Idx =>
    DA (m ((c : Thread nD τ).loc main_arg0)) (m ((c : Thread nD τ).loc main_arg1)) (m ((c : Thread nD τ).loc main_arg2)) (m ((c : Thread nD τ).loc main_arg3)) (m ((c : Thread nD τ).loc main_arg7)) (y 0) (y 1) := by
  refine (dats m 0 c).arrAt_eq_of_after_last 9 t0_0 (by decide +kernel) _ fun y => ?_
  rw [after0_9]
  unfold out0_9
  frame_out
  obtain ⟨j, r, rfl⟩ : ∃ (j : Fin 7168) (r : Fin 32), y = ix2 j r := ⟨y 0, y 1, eq_ix2 y⟩
  refine Eq.trans ?_ (show DA _ _ _ _ _ j r = _ from congrArg₂ _ (Fin.ext (by blk_simp [idx])) (Fin.ext (by blk_simp [idx])))
  refine (pay1 (k0_pay11 (iblk m c 0 t0_0) (iblk m c 1 t0_0) (iblk m c 2 t0_0) (iblk m c 3 t0_0) (iblk m c 4 t0_0) (iblk m c 5 t0_0) (iblk m c 6 t0_0) (iblk m c 7 t0_0)) (iblk m c 0 t0_0) (iblk m c 1 t0_0) j r).trans ?_
  simp only [DA, t_at, xI, xsI]

/-- Result 3 of the reference. -/
theorem arr10 (c : Dev nD) : (dats m 0 c).arrAt 10 cfg0.N = fun y : S32x18432.Idx =>
    DB (m ((c : Thread nD τ).loc main_arg0)) (m ((c : Thread nD τ).loc main_arg1)) (m ((c : Thread nD τ).loc main_arg2)) (m ((c : Thread nD τ).loc main_arg3)) (m ((c : Thread nD τ).loc main_arg6)) (y 0) (y 1) := by
  refine (dats m 0 c).arrAt_eq_of_after_last 10 t0_0 (by decide +kernel) _ fun y => ?_
  rw [after0_10]
  unfold out0_10
  frame_out
  obtain ⟨r, j, rfl⟩ : ∃ (r : Fin 32) (j : Fin 18432), y = ix2 r j := ⟨y 0, y 1, eq_ix2 y⟩
  refine Eq.trans ?_ (show DB _ _ _ _ _ r j = _ from congrArg₂ _ (Fin.ext (by blk_simp [idx])) (Fin.ext (by blk_simp [idx])))
  refine (pay2 (iblk m c 2 t0_0) (iblk m c 3 t0_0) (k0_pay12 (iblk m c 0 t0_0) (iblk m c 1 t0_0) (iblk m c 2 t0_0) (iblk m c 3 t0_0) (iblk m c 4 t0_0) (iblk m c 5 t0_0) (iblk m c 6 t0_0) (iblk m c 7 t0_0)) j r).trans ?_
  simp only [DB, xa_at, dyI, dysI]

end Cert.ReferenceIdeal.Val
-- ==== Proof.Value.Host.lean ====
/- What the host operations around the two launches put into the launches' operands, entry by entry. -/
module

public import proofs.«01_k».proof.Proof.KernelIdeal.Run
public import proofs.«01_k».proof.Proof.Value.Spec
public import Idealize.ShloMosaic.Lib.Pointwise
public import Idealize.ShloMosaic.Lib.Pipeline.ValueKit
public import Idealize.ShloMosaic.Lib.Claim

@[expose] public section

set_option maxRecDepth 16384

noncomputable section
open Idealize.ShloMosaic Idealize.ShloMosaic.TcCoe

namespace Cert.KernelIdeal.Val
open Cert.KernelIdeal Cert.KernelIdeal.Gen Cert.KernelIdeal.Gen.Whole Cert.Val

variable (m : (ℓ : Loc nD τ sig) → Buf (Elt Ideal) ℓ)

/-- The segment and the token of a row of the flattened arrays. -/
def seg (i : Fin 12288) : Fin 3 := ⟨i.val / 4096, by omega⟩
def tok (i : Fin 12288) : Fin 4096 := ⟨i.val % 4096, by omega⟩

/-- The tokens' codes as the first launch finds them: row `i` is token `tok i` of segment `seg i`. -/
theorem e0_x (c : Dev nD) (i : Fin 12288) (k : Fin 7168) :
    (Whole.V1 m c main_v2 : Vec Ideal S12288x7168 .fp8e4m3) (ix2 i k) = X (m ((c : Thread nD τ).loc main_arg0)) (seg i) (tok i) k := by
  unfold Whole.V1
  entry_read
  pointwise
  rfl

/-- The gradient's codes as the first launch finds them. -/
theorem e0_dy (c : Dev nD) (i : Fin 12288) (k : Fin 18432) :
    (Whole.V1 m c main_v3 : Vec Ideal S12288x18432 .fp8e5m2) (ix2 i k) = DY (m ((c : Thread nD τ).loc main_arg2)) (seg i) (tok i) k := by
  unfold Whole.V1
  entry_read
  pointwise
  rfl

/-- The first adapter, transposed, as the first launch finds it. -/
theorem e0_at (c : Dev nD) (r : Fin 32) (k : Fin 7168) :
    (Whole.V1 m c main_v6 : Vec Ideal S32x7168 .bf16) (ix2 r k) = (m ((c : Thread nD τ).loc main_arg6) : Vec Ideal S7168x32 .bf16) (ix2 k r) := by
  unfold Whole.V1
  entry_read
  pointwise

/-- The gradient's scales, in 48 blocks of 256 rows. -/
theorem e0_dys (c : Dev nD) (s : Fin 48) (p : Fin 256) :
    (Whole.V1 m c main_v7 : Vec Ideal S48x1x256 .f32) (ix3 s 0 p) = (m ((c : Thread nD τ).loc main_arg3) : Vec Ideal S3x4096 .f32)
      (ix2 ⟨s.val / 16, by omega⟩ ⟨s.val % 16 * 256 + p.val, by omega⟩) := by
  unfold Whole.V1
  entry_read
  pointwise

/-- The tokens' scales, in 48 blocks of 256 rows. -/
theorem e0_xs (c : Dev nD) (s : Fin 48) (p : Fin 256) :
    (Whole.V1 m c main_v8 : Vec Ideal S48x1x256 .f32) (ix3 s 0 p) = (m ((c : Thread nD τ).loc main_arg1) : Vec Ideal S3x4096 .f32)
      (ix2 ⟨s.val / 16, by omega⟩ ⟨s.val % 16 * 256 + p.val, by omega⟩) := by
  unfold Whole.V1
  entry_read
  pointwise

/-- What neither launch nor host operation before the second launch writes is there as at the start. -/
theorem v2_v5 (c : Dev nD) : Whole.V2 m c main_v5 = Whole.V1 m c main_v5 :=
  V2_ne m c main_v5 (by decide) (by decide) (by decide) (by decide)
/-- The weight's scales are still there after the first launch. -/
theorem v2_arg5 (c : Dev nD) : Whole.V2 m c main_arg5 = m ((c : Thread nD τ).loc main_arg5) :=
  (V2_ne m c main_arg5 (by decide) (by decide) (by decide) (by decide)).trans (Whole.V1_of m c main_arg5 (by decide))
/-- The second adapter is an argument as it came. -/
theorem e0_b (c : Dev nD) : Whole.V1 m c main_arg7 = m ((c : Thread nD τ).loc main_arg7) := Whole.V1_of m c main_arg7 (by decide)
/-- The second launch takes the first launch's first result. -/
theorem e1_t (c : Dev nD) : Whole.V3 m c main_v9_0 = (Small.dats (E0 m) 0 c).arrAt 6 cfg0.N :=
  (Whole.V3_of m c main_v9_0 (by decide)).trans (V2_0 m c)
/-- It takes the same gradient codes. -/
theorem e1_dy (c : Dev nD) : Whole.V3 m c main_v3 = Whole.V1 m c main_v3 :=
  (Whole.V3_of m c main_v3 (by decide)).trans (V2_ne m c main_v3 (by decide) (by decide) (by decide) (by decide))
/-- It takes the weight as it came. -/
theorem e1_w (c : Dev nD) : Whole.V3 m c main_arg4 = m ((c : Thread nD τ).loc main_arg4) :=
  (Whole.V3_of m c main_arg4 (by decide)).trans ((V2_ne m c main_arg4 (by decide) (by decide) (by decide) (by decide)).trans (Whole.V1_of m c main_arg4 (by decide)))
/-- It takes the first adapter as it came. -/
theorem e1_a (c : Dev nD) : Whole.V3 m c main_arg6 = m ((c : Thread nD τ).loc main_arg6) :=
  (Whole.V3_of m c main_arg6 (by decide)).trans ((V2_ne m c main_arg6 (by decide) (by decide) (by decide) (by decide)).trans (Whole.V1_of m c main_arg6 (by decide)))

/-- The gradient's scales by flattened row. -/
theorem e0_v5 (c : Dev nD) (i : Fin 12288) :
    (Whole.V1 m c main_v5 : Vec Ideal S12288 .f32) (ix1 i) = (m ((c : Thread nD τ).loc main_arg3) : Vec Ideal S3x4096 .f32) (ix2 (seg i) (tok i)) := by
  unfold Whole.V1
  entry_read
  pointwise
  rfl

/-- The gradient's scales as the second launch finds them, one column. -/
theorem e1_dys (c : Dev nD) (i : Fin 12288) :
    (Whole.V3 m c main_v10 : Vec Ideal S12288x1 .f32) (ix2 i 0) = (m ((c : Thread nD τ).loc main_arg3) : Vec Ideal S3x4096 .f32) (ix2 (seg i) (tok i)) := by
  refine Eq.trans ?_ (e0_v5 m c i)
  rw [← v2_v5]
  unfold Whole.V3
  entry_read
  pointwise

/-- The weight's scales as the second launch finds them, one row. -/
theorem e1_ws (c : Dev nD) (k : Fin 18432) :
    (Whole.V3 m c main_v12 : Vec Ideal S1x18432 .bf16) (ix2 0 k) = (m ((c : Thread nD τ).loc main_arg5) : Vec Ideal S18432 .f32) (ix1 k) := by
  refine Eq.trans ?_ (congrFun (v2_arg5 m c) (ix1 k))
  unfold Whole.V3
  entry_read
  pointwise

/-- Result 1 is the second launch's array, its rows put back into segments. -/
theorem r_dx (c : Dev nD) (q : Fin 3) (p : Fin 4096) (j : Fin 7168) :
    (Whole.V5 m c main_v14 : Vec Ideal S3x4096x7168 .bf16) (ix3 q p j)
      = ((Dx.dats (E1 m) 0 c).arrAt 6 cfg1.N : Vec Ideal S12288x7168 .bf16) (ix2 ⟨q.val * 4096 + p.val, by omega⟩ j) := by
  rw [← V4_13]
  unfold Whole.V5
  entry_read
  pointwise

/-- The second launch keeps the first launch's first result. -/
theorem v4_t (c : Dev nD) : Whole.V4 m c main_v9_0 = (Small.dats (E0 m) 0 c).arrAt 6 cfg0.N :=
  (V4_ne m c main_v9_0 (by decide)).trans (e1_t m c)
/-- It keeps the first launch's second result. -/
theorem v4_xa (c : Dev nD) : Whole.V4 m c main_v9_1 = (Small.dats (E0 m) 0 c).arrAt 7 cfg0.N :=
  (V4_ne m c main_v9_1 (by decide)).trans ((Whole.V3_of m c main_v9_1 (by decide)).trans (V2_1 m c))

/-- Result 4 is the first launch's first array, its rows put back into segments. -/
theorem r_t (c : Dev nD) (q : Fin 3) (p : Fin 4096) (r : Fin 32) :
    (Whole.V5 m c main_v15 : Vec Ideal S3x4096x32 .f32) (ix3 q p r)
      = ((Small.dats (E0 m) 0 c).arrAt 6 cfg0.N : Vec Ideal S12288x32 .f32) (ix2 ⟨q.val * 4096 + p.val, by omega⟩ r) := by
  rw [← v4_t]
  unfold Whole.V5
  entry_read
  pointwise

/-- Result 5 is the first launch's second array, its rows put back into segments. -/
theorem r_xa (c : Dev nD) (q : Fin 3) (p : Fin 4096) (r : Fin 32) :
    (Whole.V5 m c main_v16 : Vec Ideal S3x4096x32 .f32) (ix3 q p r)
      = ((Small.dats (E0 m) 0 c).arrAt 7 cfg0.N : Vec Ideal S12288x32 .f32) (ix2 ⟨q.val * 4096 + p.val, by omega⟩ r) := by
  rw [← v4_xa]
  unfold Whole.V5
  entry_read
  pointwise

/-- Result 2 is the first launch's third array. -/
theorem r_dA (c : Dev nD) : Whole.V5 m c main_v9_2 = (Small.dats (E0 m) 0 c).arrAt 8 cfg0.N :=
  (Whole.V5_of m c main_v9_2 (by decide)).trans ((V4_ne m c main_v9_2 (by decide)).trans ((Whole.V3_of m c main_v9_2 (by decide)).trans (V2_2 m c)))
/-- Result 3 is the first launch's fourth array. -/
theorem r_dB (c : Dev nD) : Whole.V5 m c main_v9_3 = (Small.dats (E0 m) 0 c).arrAt 9 cfg0.N :=
  (Whole.V5_of m c main_v9_3 (by decide)).trans ((V4_ne m c main_v9_3 (by decide)).trans ((Whole.V3_of m c main_v9_3 (by decide)).trans (V2_3 m c)))

end Cert.KernelIdeal.Val
-- ==== Proof.Value.SmallStep.lean ====
/- The first launch: what the body leaves in its blocks and accumulators at a grid point, entry by entry. -/
module

public import proofs.«01_k».proof.Proof.KernelIdeal.Small.Frame
public import proofs.«01_k».proof.Proof.Value.Limbs
public import Idealize.ShloMosaic.Lib.Pointwise
public import Idealize.ShloMosaic.Lib.Pipeline.ValueKit
public import Idealize.ShloMosaic.Lib.Pipeline.Covers
public import Idealize.ShloMosaic.Lib.Pipeline.ReadBack

@[expose] public section

set_option maxRecDepth 16384

noncomputable section
open Idealize.ShloMosaic Idealize.ShloMosaic.TcCoe

namespace Cert.KernelIdeal.Val.Small
open Cert.KernelIdeal Cert.KernelIdeal.Gen Cert.KernelIdeal.Gen.Small Cert.Val

variable (m : (c : Dev nD) → (b : Ref sig .tc) → Buf (Elt Ideal) ((c : Thread nD τ).loc b))

/-- The blocks of the grid point `t`, at their shapes. -/
abbrev dysB (c : Dev nD) (t : Fin cfg0.N) : Vec Ideal S1x1x256 .f32 := iblk m c 0 t
abbrev xsB (c : Dev nD) (t : Fin cfg0.N) : Vec Ideal S1x1x256 .f32 := iblk m c 1 t
abbrev dyB (c : Dev nD) (t : Fin cfg0.N) : Vec Ideal S256x18432 .fp8e5m2 := iblk m c 2 t
abbrev xB (c : Dev nD) (t : Fin cfg0.N) : Vec Ideal S256x7168 .fp8e4m3 := iblk m c 3 t
abbrev atB (c : Dev nD) (t : Fin cfg0.N) : Vec Ideal S32x7168 .bf16 := iblk m c 4 t
abbrev bB (c : Dev nD) (t : Fin cfg0.N) : Vec Ideal S32x18432 .bf16 := iblk m c 5 t

/-- The point's rows of `t` and of `xa`, one column a row, each under the other operand's scale. -/
def u (c : Dev nD) (t : Fin cfg0.N) (i : Fin 32) (p : Fin 256) : EReal :=
  (∑ k : Fin 18432, bB m c t (ix2 i k) * dyB m c t (ix2 p k)) * dysB m c t (ix3 0 0 p) * xsB m c t (ix3 0 0 p)
def w (c : Dev nD) (t : Fin cfg0.N) (i : Fin 32) (p : Fin 256) : EReal :=
  (∑ k : Fin 7168, atB m c t (ix2 i k) * xB m c t (ix2 p k)) * xsB m c t (ix3 0 0 p) * dysB m c t (ix3 0 0 p)

theorem pay13 (f : Vec Ideal S1x1x256 .f32) (g : Vec Ideal S1x1x256 .f32) (b : Vec Ideal S32x18432 .bf16) (dy : Vec Ideal S256x18432 .fp8e5m2)
    (acc : Vec Ideal S32x1024 .f32) (x : Vec Ideal S256x1024 .fp8e4m3) (i : Fin 32) (j : Fin 1024) :
    k0_pay13 (F := Ideal) (k0_pay11 f g b dy) acc x (ix2 i j) = acc (ix2 i j) + limbs (fun p =>
      (∑ k : Fin 18432, b (ix2 i k) * dy (ix2 p k)) * f (ix3 0 0 p) * g (ix3 0 0 p)) (fun p => x (ix2 p j)) := by
  unfold limbs
  pointwise [k0_pay13, k0_pay11, k0_pay7, k0_pay6, k0_pay5]
  have e1 : ¬(64 + i.val < 32) := by omega
  have e2 : ¬(64 + i.val - 32 < 32) := by omega
  have e : 64 + i.val - 32 - 32 = i.val := by omega
  simp only [e1, e2, dite_false, e]

theorem pay21 (f : Vec Ideal S1x1x256 .f32) (g : Vec Ideal S1x1x256 .f32) (a : Vec Ideal S32x7168 .bf16) (xx : Vec Ideal S256x7168 .fp8e4m3)
    (acc : Vec Ideal S32x1024 .f32) (x : Vec Ideal S256x1024 .fp8e5m2) (i : Fin 32) (j : Fin 1024) :
    k0_pay21 (F := Ideal) (k0_pay12 (k0_pay5 f) (k0_pay8 g a xx)) acc x (ix2 i j) = acc (ix2 i j) + limbs (fun p =>
      (∑ k : Fin 7168, a (ix2 i k) * xx (ix2 p k)) * g (ix3 0 0 p) * f (ix3 0 0 p)) (fun p => x (ix2 p j)) := by
  unfold limbs
  pointwise [k0_pay21, k0_pay12, k0_pay8, k0_pay6, k0_pay5]
  have e1 : ¬(64 + i.val < 32) := by omega
  have e2 : ¬(64 + i.val - 32 < 32) := by omega
  have e : 64 + i.val - 32 - 32 = i.val := by omega
  simp only [e1, e2, dite_false, e]

theorem pay9 (f : Vec Ideal S1x1x256 .f32) (b : Vec Ideal S32x18432 .bf16) (dy : Vec Ideal S256x18432 .fp8e5m2) (p : Fin 256) (i : Fin 32) :
    k0_pay9 (F := Ideal) f b dy (ix2 p i) = (∑ k : Fin 18432, b (ix2 i k) * dy (ix2 p k)) * f (ix3 0 0 p) := by
  pointwise [k0_pay9, k0_pay7, k0_pay5]

theorem pay10 (g : Vec Ideal S1x1x256 .f32) (a : Vec Ideal S32x7168 .bf16) (x : Vec Ideal S256x7168 .fp8e4m3) (p : Fin 256) (i : Fin 32) :
    k0_pay10 (F := Ideal) g a x (ix2 p i) = (∑ k : Fin 7168, a (ix2 i k) * x (ix2 p k)) * g (ix3 0 0 p) := by
  pointwise [k0_pay10, k0_pay8, k0_pay6]

theorem pay3 (i : Fin 32) (j : Fin 7168) : k0_pay3 (F := Ideal) (ix2 i j) = 0 := by
  pointwise [k0_pay3]

theorem pay4 (i : Fin 32) (j : Fin 18432) : k0_pay4 (F := Ideal) (ix2 i j) = 0 := by
  pointwise [k0_pay4]

theorem pay1 (v : Vec Ideal S32x7168 .f32) (j : Fin 7168) (i : Fin 32) : k0_pay1 (F := Ideal) v (ix2 j i) = v (ix2 i j) * two := by
  pointwise [k0_pay1]

theorem pay2 (v : Vec Ideal S32x18432 .f32) (i : Fin 32) (j : Fin 18432) : k0_pay2 (F := Ideal) v (ix2 i j) = v (ix2 i j) * two := by
  pointwise [k0_pay2]

/-- Pieces that cover an index leave there what they leave without the stores made before them. -/
theorem canon_over {S : Shape} {e : EltTy} (L' : List (View.Piece (Elt Ideal) S e)) : ∀ (L : List (View.Piece (Elt Ideal) S e)) (y : S.Idx),
    (∃ p ∈ L, y ∈ p.1.set) → View.canon (L ++ L') y = View.canon L y
  | [], _, h => by obtain ⟨p, hp, _⟩ := h; exact absurd hp List.not_mem_nil
  | p :: L, y, h => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine canon_over L' L y ?_
      obtain ⟨q, hq, hyq⟩ := h
      rcases List.mem_cons.mp hq with rfl | hq'
      · exact absurd hyq hm
      · exact ⟨q, hq', hyq⟩

/-- Equal tiles over any earlier stores, read at an index. -/
theorem tiles_over {S : Shape} {e : EltTy} {N : Nat} (off : Fin N → Fin S.rank → Nat) (size : Fin S.rank → Nat)
    (inb : ∀ k a, off k a + size a ≤ S.size a) (P : Fin N → (⟨S.rank, size⟩ : Shape).Idx → Elt Ideal e) (L' : List (View.Piece (Elt Ideal) S e))
    (y : S.Idx) (v : Elt Ideal e) (hc : ∃ k, ∀ a, off k a ≤ y a ∧ (y a : Nat) < off k a + size a)
    (h : ∀ k, View.TileAt y (off k) size (P k) v) :
    View.canon (List.ofFn (fun k => (⟨Rect.unit (off k) size (inb k), P k⟩ : View.Piece (Elt Ideal) S e)) ++ L') y = v := by
  rw [canon_over L' _ y ?_]
  · exact View.canon_ofFn_unit_eq_of_forall off size inb P y v hc h
  · obtain ⟨k, hk⟩ := hc
    exact ⟨_, (List.mem_ofFn).mpr ⟨k, rfl⟩, (Rect.mem_set_unit (inb := inb k)).mpr hk⟩

theorem inbA (k : Fin 7) : ∀ a, (![0, (6 - k.val) * 1024] : Fin 2 → Nat) a + (![32, 1024] : Fin 2 → Nat) a ≤ S32x7168.size a :=
  Fin.forall_fin_two.mpr ⟨Nat.le_refl 32, show (6 - k.val) * 1024 + 1024 ≤ 7168 by omega⟩
theorem inbX (k : Fin 7) : ∀ a, (![0, (6 - k.val) * 1024] : Fin 2 → Nat) a + (![256, 1024] : Fin 2 → Nat) a ≤ S256x7168.size a :=
  Fin.forall_fin_two.mpr ⟨Nat.le_refl 256, show (6 - k.val) * 1024 + 1024 ≤ 7168 by omega⟩
theorem inbB (k : Fin 18) : ∀ a, (![0, (17 - k.val) * 1024] : Fin 2 → Nat) a + (![32, 1024] : Fin 2 → Nat) a ≤ S32x18432.size a :=
  Fin.forall_fin_two.mpr ⟨Nat.le_refl 32, show (17 - k.val) * 1024 + 1024 ≤ 18432 by omega⟩
theorem inbY (k : Fin 18) : ∀ a, (![0, (17 - k.val) * 1024] : Fin 2 → Nat) a + (![256, 1024] : Fin 2 → Nat) a ≤ S256x18432.size a :=
  Fin.forall_fin_two.mpr ⟨Nat.le_refl 256, show (17 - k.val) * 1024 + 1024 ≤ 18432 by omega⟩

/-- The seven column tiles that one point adds to the accumulator of the first weight gradient, the last stored first. -/
def tilesA (v : FVec Ideal S96x256 .bf16) (acc : Vec Ideal S32x7168 .f32) (x : Vec Ideal S256x7168 .fp8e4m3) : List (View.Piece (Elt Ideal) S32x7168 .f32) :=
  List.ofFn fun k : Fin 7 => ⟨Rect.unit ![0, (6 - k.val) * 1024] ![32, 1024] (inbA k), k0_pay13 (F := Ideal) v
    (View.ld acc (Rect.unit ![0, (6 - k.val) * 1024] ![32, 1024] (inbA k))) (View.ld x (Rect.unit ![0, (6 - k.val) * 1024] ![256, 1024] (inbX k)))⟩

/-- The eighteen of the second. -/
def tilesB (v : FVec Ideal S96x256 .bf16) (acc : Vec Ideal S32x18432 .f32) (x : Vec Ideal S256x18432 .fp8e5m2) : List (View.Piece (Elt Ideal) S32x18432 .f32) :=
  List.ofFn fun k : Fin 18 => ⟨Rect.unit ![0, (17 - k.val) * 1024] ![32, 1024] (inbB k), k0_pay21 (F := Ideal) v
    (View.ld acc (Rect.unit ![0, (17 - k.val) * 1024] ![32, 1024] (inbB k))) (View.ld x (Rect.unit ![0, (17 - k.val) * 1024] ![256, 1024] (inbY k)))⟩

theorem tilesA_apply (f g : Vec Ideal S1x1x256 .f32) (b : Vec Ideal S32x18432 .bf16) (dy : Vec Ideal S256x18432 .fp8e5m2)
    (acc : Vec Ideal S32x7168 .f32) (x : Vec Ideal S256x7168 .fp8e4m3) (L' : List (View.Piece (Elt Ideal) S32x7168 .f32)) (i : Fin 32) (j : Fin 7168) :
    View.canon (tilesA (k0_pay11 f g b dy) acc x ++ L') (ix2 i j) = acc (ix2 i j) + limbs (fun p =>
      (∑ k : Fin 18432, b (ix2 i k) * dy (ix2 p k)) * f (ix3 0 0 p) * g (ix3 0 0 p)) (fun p => x (ix2 p j)) := by
  refine tiles_over (S := S32x7168) (e := .f32) (N := 7) (fun k => ![0, (6 - k.val) * 1024]) ![32, 1024] inbA _ L' _ _ ⟨⟨6 - j.val / 1024, by omega⟩, Fin.forall_fin_two.mpr ⟨⟨Nat.zero_le _, ?_⟩, ?_⟩⟩ fun k z hz => ?_
  · show i.val < 0 + 32
    omega
  · show (6 - (6 - j.val / 1024)) * 1024 ≤ j.val ∧ j.val < (6 - (6 - j.val / 1024)) * 1024 + 1024
    omega
  · have h0 : i.val = 0 + (z 0).val := hz 0
    have h1 : j.val = (6 - k.val) * 1024 + (z 1).val := hz 1
    obtain ⟨z0, z1, rfl⟩ : ∃ (z0 : Fin 32) (z1 : Fin 1024), z = ix2 z0 z1 := ⟨z 0, z 1, eq_ix2 z⟩
    have h1 : j.val = (6 - k.val) * 1024 + z1.val := h1
    obtain rfl : i = z0 := Fin.ext (h0.trans (Nat.zero_add _))
    rw [pay13]
    refine add_limbs (View.ld_unit_apply_of acc _ _ _ _ _ (Fin.forall_fin_two.mpr ⟨(Nat.zero_add _).symm, h1⟩)) (fun p => rfl)
      (fun p => View.ld_unit_apply_of x _ _ _ _ _ (Fin.forall_fin_two.mpr ⟨(Nat.zero_add _).symm, h1⟩))

theorem tilesB_apply (f g : Vec Ideal S1x1x256 .f32) (a : Vec Ideal S32x7168 .bf16) (xx : Vec Ideal S256x7168 .fp8e4m3)
    (acc : Vec Ideal S32x18432 .f32) (x : Vec Ideal S256x18432 .fp8e5m2) (L' : List (View.Piece (Elt Ideal) S32x18432 .f32)) (i : Fin 32) (j : Fin 18432) :
    View.canon (tilesB (k0_pay12 (k0_pay5 f) (k0_pay8 g a xx)) acc x ++ L') (ix2 i j) = acc (ix2 i j) + limbs (fun p =>
      (∑ k : Fin 7168, a (ix2 i k) * xx (ix2 p k)) * g (ix3 0 0 p) * f (ix3 0 0 p)) (fun p => x (ix2 p j)) := by
  refine tiles_over (S := S32x18432) (e := .f32) (N := 18) (fun k => ![0, (17 - k.val) * 1024]) ![32, 1024] inbB _ L' _ _ ⟨⟨17 - j.val / 1024, by omega⟩, Fin.forall_fin_two.mpr ⟨⟨Nat.zero_le _, ?_⟩, ?_⟩⟩ fun k z hz => ?_
  · show i.val < 0 + 32
    omega
  · show (17 - (17 - j.val / 1024)) * 1024 ≤ j.val ∧ j.val < (17 - (17 - j.val / 1024)) * 1024 + 1024
    omega
  · have h0 : i.val = 0 + (z 0).val := hz 0
    have h1 : j.val = (17 - k.val) * 1024 + (z 1).val := hz 1
    obtain ⟨z0, z1, rfl⟩ : ∃ (z0 : Fin 32) (z1 : Fin 1024), z = ix2 z0 z1 := ⟨z 0, z 1, eq_ix2 z⟩
    have h1 : j.val = (17 - k.val) * 1024 + z1.val := h1
    obtain rfl : i = z0 := Fin.ext (h0.trans (Nat.zero_add _))
    rw [pay21]
    refine add_limbs (View.ld_unit_apply_of acc _ _ _ _ _ (Fin.forall_fin_two.mpr ⟨(Nat.zero_add _).symm, h1⟩)) (fun p => rfl)
      (fun p => View.ld_unit_apply_of x _ _ _ _ _ (Fin.forall_fin_two.mpr ⟨(Nat.zero_add _).symm, h1⟩))

theorem accA_A (c : Dev nD) (t : Fin cfg0.N) (h : t.val % 48 = 0) (i : Fin 32) (j : Fin 7168) :
    (outsAt0 m c t.val t.isLt).2.2.2.2.1 (ix2 i j) = 0 + limbs (u m c t i) (fun p => xB m c t (ix2 p j)) := by
  rw [outsAt0_A m c t h (by omega)]
  frame_open
  simp (disch := decide) only [↓ View.readCov_skip, ↓ View.readCov_cons_toLoadRect, ↓ View.readCov_fill]
  frame_out
  rw [← pay3 i j]
  exact tilesA_apply (dysB m c t) (xsB m c t) (bB m c t) (dyB m c t) (k0_pay3 (F := Ideal)) (xB m c t) _ i j

theorem accA_B (c : Dev nD) (t : Fin cfg0.N) (h : ¬t.val % 48 = 0) (i : Fin 32) (j : Fin 7168) :
    (outsAt0 m c t.val t.isLt).2.2.2.2.1 (ix2 i j) =
      (outsAt0 m c (t.val - 1) (Nat.lt_of_le_of_lt (Nat.sub_le _ _) t.isLt)).2.2.2.2.1 (ix2 i j)
        + limbs (u m c t i) (fun p => xB m c t (ix2 p j)) := by
  by_cases h' : t.val % 48 = 47
  · rw [outsAt0_C m c t h h']
    frame_out
    simp only [read_unread_whole]
    exact tilesA_apply (dysB m c t) (xsB m c t) (bB m c t) (dyB m c t) (outsAt0 m c (t.val - 1) (Nat.lt_of_le_of_lt (Nat.sub_le _ _) t.isLt)).2.2.2.2.1 (xB m c t) [] i j
  · rw [outsAt0_B m c t h h']
    frame_out
    simp only [read_unread_whole]
    exact tilesA_apply (dysB m c t) (xsB m c t) (bB m c t) (dyB m c t) (outsAt0 m c (t.val - 1) (Nat.lt_of_le_of_lt (Nat.sub_le _ _) t.isLt)).2.2.2.2.1 (xB m c t) [] i j

theorem accB_A (c : Dev nD) (t : Fin cfg0.N) (h : t.val % 48 = 0) (i : Fin 32) (j : Fin 18432) :
    (outsAt0 m c t.val t.isLt).2.2.2.2.2 (ix2 i j) = 0 + limbs (w m c t i) (fun p => dyB m c t (ix2 p j)) := by
  rw [outsAt0_A m c t h (by omega)]
  frame_open
  simp (disch := decide) only [↓ View.readCov_skip, ↓ View.readCov_cons_toLoadRect, ↓ View.readCov_fill]
  frame_out
  rw [← pay4 i j]
  exact tilesB_apply (dysB m c t) (xsB m c t) (atB m c t) (xB m c t) (k0_pay4 (F := Ideal)) (dyB m c t) _ i j

theorem accB_B (c : Dev nD) (t : Fin cfg0.N) (h : ¬t.val % 48 = 0) (i : Fin 32) (j : Fin 18432) :
    (outsAt0 m c t.val t.isLt).2.2.2.2.2 (ix2 i j) =
      (outsAt0 m c (t.val - 1) (Nat.lt_of_le_of_lt (Nat.sub_le _ _) t.isLt)).2.2.2.2.2 (ix2 i j)
        + limbs (w m c t i) (fun p => dyB m c t (ix2 p j)) := by
  by_cases h' : t.val % 48 = 47
  · rw [outsAt0_C m c t h h']
    frame_out
    simp only [read_unread_whole]
    exact tilesB_apply (dysB m c t) (xsB m c t) (atB m c t) (xB m c t) (outsAt0 m c (t.val - 1) (Nat.lt_of_le_of_lt (Nat.sub_le _ _) t.isLt)).2.2.2.2.2 (dyB m c t) [] i j
  · rw [outsAt0_B m c t h h']
    frame_out
    simp only [read_unread_whole]
    exact tilesB_apply (dysB m c t) (xsB m c t) (atB m c t) (xB m c t) (outsAt0 m c (t.val - 1) (Nat.lt_of_le_of_lt (Nat.sub_le _ _) t.isLt)).2.2.2.2.2 (dyB m c t) [] i j

/-- The two row results of a point. -/
theorem t_out (c : Dev nD) (t : Fin cfg0.N) (p : Fin 256) (i : Fin 32) :
    (outsAt0 m c t.val t.isLt).1 (ix2 p i) = (∑ k : Fin 18432, bB m c t (ix2 i k) * dyB m c t (ix2 p k)) * dysB m c t (ix3 0 0 p) := by
  rw [← pay9]
  by_cases h : t.val % 48 = 0
  · rw [outsAt0_A m c t h (by omega)]
    frame_out
  · by_cases h' : t.val % 48 = 47
    · rw [outsAt0_C m c t h h']
      frame_out
    · rw [outsAt0_B m c t h h']
      frame_out

theorem xa_out (c : Dev nD) (t : Fin cfg0.N) (p : Fin 256) (i : Fin 32) :
    (outsAt0 m c t.val t.isLt).2.1 (ix2 p i) = (∑ k : Fin 7168, atB m c t (ix2 i k) * xB m c t (ix2 p k)) * xsB m c t (ix3 0 0 p) := by
  rw [← pay10]
  by_cases h : t.val % 48 = 0
  · rw [outsAt0_A m c t h (by omega)]
    frame_out
  · by_cases h' : t.val % 48 = 47
    · rw [outsAt0_C m c t h h']
      frame_out
    · rw [outsAt0_B m c t h h']
      frame_out

/-- A load of the whole of what was stored reads what the stores leave. -/
theorem readCov_whole {sig : RefSig} {κ : Kind} {sp : Space} {S : Shape} {e : EltTy} (v : View sig κ sp S e) (L : List (View.Piece (Elt Ideal) S e))
    {off : Fin S.rank → Nat} (h : off = fun _ => 0) (inb : ∀ a, off a + S.size a ≤ S.size a) :
    v.readCov L (Rect.unit off S.size inb).toLoadRect = View.canon L :=
  (View.readCov_eq_canon' v L _).trans (View.ld_unit_zero h inb (View.canon L))

/-- The two gradients at the last point: twice the accumulators. -/
theorem dA_out (c : Dev nD) (t : Fin cfg0.N) (h' : t.val % 48 = 47) (j : Fin 7168) (i : Fin 32) :
    (outsAt0 m c t.val t.isLt).2.2.1 (ix2 j i) = (outsAt0 m c t.val t.isLt).2.2.2.2.1 (ix2 i j) * two := by
  rw [← pay1]
  rw [outsAt0_C m c t (by omega) h']
  frame_out
  exact congrArg (fun v => k0_pay1 (F := Ideal) v (ix2 j i)) (readCov_whole (S := S32x7168) (e := .f32) (View.whole cc0_scratch0) _ (off := ![0, 0])
    (funext (Fin.forall_fin_two.mpr ⟨rfl, rfl⟩)) _)

theorem dB_out (c : Dev nD) (t : Fin cfg0.N) (h' : t.val % 48 = 47) (i : Fin 32) (j : Fin 18432) :
    (outsAt0 m c t.val t.isLt).2.2.2.1 (ix2 i j) = (outsAt0 m c t.val t.isLt).2.2.2.2.2 (ix2 i j) * two := by
  rw [← pay2]
  rw [outsAt0_C m c t (by omega) h']
  frame_out
  exact congrArg (fun v => k0_pay2 (F := Ideal) v (ix2 i j)) (readCov_whole (S := S32x18432) (e := .f32) (View.whole cc0_scratch1) _ (off := ![0, 0])
    (funext (Fin.forall_fin_two.mpr ⟨rfl, rfl⟩)) _)

theorem accA_last (c : Dev nD) (t : Fin cfg0.N) (h : t.val + 1 = cfg0.N) (i : Fin 32) (j : Fin 7168) :
    (outsAt0 m c t.val t.isLt).2.2.2.2.1 (ix2 i j) = ∑ s : Fin cfg0.N, limbs (u m c s i) (fun p => xB m c s (ix2 p j)) := by
  have := Pipeline.eq_sum_fin_of_reset_step_apply_last
    (fun n h (p : Fin 32 × Fin 7168) => (outsAt0 m c n h).2.2.2.2.1 (ix2 p.1 p.2)) 48 (fun _ => 0)
    (fun s p => limbs (u m c s p.1) (fun q => xB m c s (ix2 q p.2)))
    (fun t h p => accA_A m c t h p.1 p.2) (fun t h p => accA_B m c t h p.1 p.2) (le_of_eq N_0) t h (i, j)
  rw [zero_add] at this
  exact this

theorem accB_last (c : Dev nD) (t : Fin cfg0.N) (h : t.val + 1 = cfg0.N) (i : Fin 32) (j : Fin 18432) :
    (outsAt0 m c t.val t.isLt).2.2.2.2.2 (ix2 i j) = ∑ s : Fin cfg0.N, limbs (w m c s i) (fun p => dyB m c s (ix2 p j)) := by
  have := Pipeline.eq_sum_fin_of_reset_step_apply_last
    (fun n h (p : Fin 32 × Fin 18432) => (outsAt0 m c n h).2.2.2.2.2 (ix2 p.1 p.2)) 48 (fun _ => 0)
    (fun s p => limbs (w m c s p.1) (fun q => dyB m c s (ix2 q p.2)))
    (fun t h p => accB_A m c t h p.1 p.2) (fun t h p => accB_B m c t h p.1 p.2) (le_of_eq N_0) t h (i, j)
  rw [zero_add] at this
  exact this

end Cert.KernelIdeal.Val.Small
-- ==== Proof.Value.SmallArr.lean ====
/- The first launch: its four result arrays, as functions of the arrays it is entered with. -/
module

public import proofs.«01_k».proof.Proof.Value.SmallStep

@[expose] public section

set_option maxRecDepth 16384

noncomputable section
open Idealize.ShloMosaic Idealize.ShloMosaic.TcCoe

namespace Cert.KernelIdeal.Val.Small
open Cert.KernelIdeal Cert.KernelIdeal.Gen Cert.KernelIdeal.Gen.Small Cert.Val

variable (m : (c : Dev nD) → (b : Ref sig .tc) → Buf (Elt Ideal) ((c : Thread nD τ).loc b))

/-- The operand arrays, at their shapes. -/
abbrev dysA (c : Dev nD) : Vec Ideal S48x1x256 .f32 := m c main_v7
abbrev xsA (c : Dev nD) : Vec Ideal S48x1x256 .f32 := m c main_v8
abbrev dyA (c : Dev nD) : Vec Ideal S12288x18432 .fp8e5m2 := m c main_v3
abbrev xA (c : Dev nD) : Vec Ideal S12288x7168 .fp8e4m3 := m c main_v2
abbrev atA (c : Dev nD) : Vec Ideal S32x7168 .bf16 := m c main_v6
abbrev bA (c : Dev nD) : Vec Ideal S32x18432 .bf16 := m c main_arg7

/-- The grid has 48 points. -/
theorem lt48 (t : Fin cfg0.N) : t.val < 48 := lt_of_lt_of_eq t.isLt N_0

/-- The place of each window's block at each point. -/
theorem idx : ∀ t : Fin cfg0.N, win0_0.index t = ![t.val, 0, 0] ∧ win0_1.index t = ![t.val, 0, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0] := by
  decide +kernel

/-- A point's block of the gradient's scales, by entry of the array. -/
theorem dysB_eq (c : Dev nD) (t : Fin cfg0.N) (p : Fin 256) : dysB m c t (ix3 0 0 p) = dysA m c (ix3 ⟨t.val, lt48 t⟩ 0 p) := by
  blk_ext [iblk, V, idx t]
/-- A point's block of the tokens' scales. -/
theorem xsB_eq (c : Dev nD) (t : Fin cfg0.N) (p : Fin 256) : xsB m c t (ix3 0 0 p) = xsA m c (ix3 ⟨t.val, lt48 t⟩ 0 p) := by
  blk_ext [iblk, V, idx t]
/-- A point's block of the gradient: 256 rows. -/
theorem dyB_eq (c : Dev nD) (t : Fin cfg0.N) (p : Fin 256) (k : Fin 18432) :
    dyB m c t (ix2 p k) = dyA m c (ix2 ⟨t.val * 256 + p.val, by have := lt48 t; omega⟩ k) := by
  blk_ext [iblk, V, idx t]
/-- A point's block of the tokens: 256 rows. -/
theorem xB_eq (c : Dev nD) (t : Fin cfg0.N) (p : Fin 256) (k : Fin 7168) :
    xB m c t (ix2 p k) = xA m c (ix2 ⟨t.val * 256 + p.val, by have := lt48 t; omega⟩ k) := by
  blk_ext [iblk, V, idx t]
/-- Every point has the whole transposed first adapter. -/
theorem atB_eq (c : Dev nD) (t : Fin cfg0.N) (r : Fin 32) (k : Fin 7168) : atB m c t (ix2 r k) = atA m c (ix2 r k) := by
  blk_ext [iblk, V, idx t]
/-- Every point has the whole second adapter. -/
theorem bB_eq (c : Dev nD) (t : Fin cfg0.N) (r : Fin 32) (k : Fin 18432) : bB m c t (ix2 r k) = bA m c (ix2 r k) := by
  blk_ext [iblk, V, idx t]

/-- The last point. -/
def tL : Fin cfg0.N := ⟨47, lt_of_lt_of_eq (by decide) N_0.symm⟩

/-- The third array: the partial products of all points, added up, and scaled. -/
theorem arr8 (c : Dev nD) : (dats m 0 c).arrAt 8 cfg0.N = fun y : S7168x32.Idx =>
    (∑ s : Fin cfg0.N, limbs (u m c s (y 1)) (fun p => xB m c s (ix2 p (y 0)))) * two := by
  refine (dats m 0 c).arrAt_eq_of_after_last 8 tL (by decide +kernel) _ fun y => ?_
  rw [after0_8]
  obtain ⟨j, i, rfl⟩ : ∃ (j : Fin 7168) (i : Fin 32), y = ix2 j i := ⟨y 0, y 1, eq_ix2 y⟩
  exact (dA_out m c tL rfl j i).trans (congrArg (· * two) (accA_last m c tL N_0.symm i j))

/-- The fourth array: the partial products of all points, added up, and scaled. -/
theorem arr9 (c : Dev nD) : (dats m 0 c).arrAt 9 cfg0.N = fun y : S32x18432.Idx =>
    (∑ s : Fin cfg0.N, limbs (w m c s (y 0)) (fun p => dyB m c s (ix2 p (y 1)))) * two := by
  refine (dats m 0 c).arrAt_eq_of_after_last 9 tL (by decide +kernel) _ fun y => ?_
  rw [after0_9]
  obtain ⟨i, j, rfl⟩ : ∃ (i : Fin 32) (j : Fin 18432), y = ix2 i j := ⟨y 0, y 1, eq_ix2 y⟩
  exact (dB_out m c tL rfl i j).trans (congrArg (· * two) (accB_last m c tL N_0.symm i j))

/-- The small activation gradient and the small activation, by row of the flattened arrays and by rank. -/
def tF (c : Dev nD) (i : Fin 12288) (r : Fin 32) : EReal :=
  (∑ k : Fin 18432, bA m c (ix2 r k) * dyA m c (ix2 i k)) * dysA m c (ix3 ⟨i.val / 256, by omega⟩ 0 ⟨i.val % 256, by omega⟩)
def xaF (c : Dev nD) (i : Fin 12288) (r : Fin 32) : EReal :=
  (∑ k : Fin 7168, atA m c (ix2 r k) * xA m c (ix2 i k)) * xsA m c (ix3 ⟨i.val / 256, by omega⟩ 0 ⟨i.val % 256, by omega⟩)

/-- What a point writes of the small activation gradient is the array's at its rows. -/
theorem tF_at (c : Dev nD) (t : Fin cfg0.N) (p : Fin 256) (r : Fin 32) :
    (∑ k : Fin 18432, bB m c t (ix2 r k) * dyB m c t (ix2 p k)) * dysB m c t (ix3 0 0 p)
      = tF m c ⟨t.val * 256 + p.val, by have := lt48 t; omega⟩ r := by
  unfold tF
  simp only [bB_eq, dyB_eq, dysB_eq]
  congr 3
  · exact Fin.ext (by show t.val = (t.val * 256 + p.val) / 256; omega)
  · exact Fin.ext (by show p.val = (t.val * 256 + p.val) % 256; omega)

/-- What a point writes of the small activation is the array's at its rows. -/
theorem xaF_at (c : Dev nD) (t : Fin cfg0.N) (p : Fin 256) (r : Fin 32) :
    (∑ k : Fin 7168, atB m c t (ix2 r k) * xB m c t (ix2 p k)) * xsB m c t (ix3 0 0 p)
      = xaF m c ⟨t.val * 256 + p.val, by have := lt48 t; omega⟩ r := by
  unfold xaF
  simp only [atB_eq, xB_eq, xsB_eq]
  congr 3
  · exact Fin.ext (by show t.val = (t.val * 256 + p.val) / 256; omega)
  · exact Fin.ext (by show p.val = (t.val * 256 + p.val) % 256; omega)

/-- The first array is the small activation gradient. -/
theorem arr6 (c : Dev nD) : (dats m 0 c).arrAt 6 cfg0.N = fun y : S12288x32.Idx => tF m c (y 0) (y 1) := by
  refine (dats m 0 c).arrAt_eq_of_covers 6 _ (by decide +kernel) fun t hf y => ?_
  blk_simp
  rw [after0_6]
  obtain ⟨p, i, rfl⟩ : ∃ (p : Fin 256) (i : Fin 32), y = ix2 p i := ⟨y 0, y 1, eq_ix2 y⟩
  refine ((t_out m c t p i).trans (tF_at m c t p i)).trans ?_
  exact congrArg₂ (tF m c) (Fin.ext (by blk_simp [idx t])) (Fin.ext (by blk_simp [idx t]))

/-- The second array is the small activation. -/
theorem arr7 (c : Dev nD) : (dats m 0 c).arrAt 7 cfg0.N = fun y : S12288x32.Idx => xaF m c (y 0) (y 1) := by
  refine (dats m 0 c).arrAt_eq_of_covers 7 _ (by decide +kernel) fun t hf y => ?_
  blk_simp
  rw [after0_7]
  obtain ⟨p, i, rfl⟩ : ∃ (p : Fin 256) (i : Fin 32), y = ix2 p i := ⟨y 0, y 1, eq_ix2 y⟩
  refine ((xa_out m c t p i).trans (xaF_at m c t p i)).trans ?_
  exact congrArg₂ (xaF m c) (Fin.ext (by blk_simp [idx t])) (Fin.ext (by blk_simp [idx t]))

end Cert.KernelIdeal.Val.Small
-- ==== Proof.Value.DxStep.lean ====
/- The second launch: what the body leaves in its block and accumulator at a grid point, entry by entry. -/
module

public import proofs.«01_k».proof.Proof.KernelIdeal.Dx.Frame
public import proofs.«01_k».proof.Proof.Value.Limbs
public import Idealize.ShloMosaic.Lib.Pointwise
public import Idealize.ShloMosaic.Lib.Pipeline.ValueKit
public import Idealize.ShloMosaic.Lib.Pipeline.Covers
public import Idealize.ShloMosaic.Lib.Pipeline.ReadBack

@[expose] public section

set_option maxRecDepth 16384

noncomputable section
open Idealize.ShloMosaic Idealize.ShloMosaic.TcCoe

namespace Cert.KernelIdeal.Val.Dx
open Cert.KernelIdeal Cert.KernelIdeal.Gen Cert.KernelIdeal.Gen.Dx Cert.Val

variable (m : (c : Dev nD) → (b : Ref sig .tc) → Buf (Elt Ideal) ((c : Thread nD τ).loc b))

theorem pay2 (v3 : Vec Ideal S1024x2048 .fp8e5m2) (v6 : Vec Ideal S1x2048 .bf16) (v10 : Vec Ideal S1024x1024 .f32)
    (v11 : Vec Ideal S1024x2048 .fp8e4m3) (i j : Fin 1024) :
    k1_pay2 (F := Ideal) v3 v6 v10 v11 (ix2 i j) = v10 (ix2 i j) + ∑ k : Fin 2048, v3 (ix2 i k) * v6 (ix2 0 k) * v11 (ix2 j k) := by
  pointwise [k1_pay2]

theorem pay1 (i j : Fin 1024) :
    k1_pay1 (F := Ideal) (ix2 i j) = 0 := by
  pointwise [k1_pay1]

theorem acc_A (c : Dev nD) (t : Fin cfg1.N) (h : t.val % 9 = 0) :
    (outsAt0 m c t.val t.isLt).2 = k1_pay2 (F := Ideal) (iblk m c 3 t) (iblk m c 1 t) (k1_pay1 (F := Ideal)) (iblk m c 4 t) := by
  rw [outsAt0_A m c t h (by omega)]
  frame_out

theorem acc_B (c : Dev nD) (t : Fin cfg1.N) (h : ¬t.val % 9 = 0) :
    (outsAt0 m c t.val t.isLt).2 = k1_pay2 (F := Ideal) (iblk m c 3 t) (iblk m c 1 t)
      (outsAt0 m c (t.val - 1) (Nat.lt_of_le_of_lt (Nat.sub_le _ _) t.isLt)).2 (iblk m c 4 t) := by
  by_cases h1 : t.val % 9 = 8
  · rw [outsAt0_C m c t h h1]
    frame_out
    rw [read_unread_whole]
  · rw [outsAt0_B m c t h h1]
    frame_out
    rw [read_unread_whole]

theorem out_C (c : Dev nD) (t : Fin cfg1.N) (h1 : t.val % 9 = 8) :
    (outsAt0 m c t.val t.isLt).1 = k1_pay3 (F := Ideal) (iblk m c 2 t) (iblk m c 5 t)
      (outsAt0 m c t.val t.isLt).2 (iblk m c 0 t) := by
  rw [acc_B m c t (by omega), outsAt0_C m c t (by omega) h1]
  frame_out
  rw [read_unread_whole]

/-- The blocks of the grid point `t`, at their shapes. -/
abbrev dysB (c : Dev nD) (t : Fin cfg1.N) : Vec Ideal S1024x1 .f32 := iblk m c 0 t
abbrev wsB (c : Dev nD) (t : Fin cfg1.N) : Vec Ideal S1x2048 .bf16 := iblk m c 1 t
abbrev tB (c : Dev nD) (t : Fin cfg1.N) : Vec Ideal S1024x32 .f32 := iblk m c 2 t
abbrev dyB (c : Dev nD) (t : Fin cfg1.N) : Vec Ideal S1024x2048 .fp8e5m2 := iblk m c 3 t
abbrev wB (c : Dev nD) (t : Fin cfg1.N) : Vec Ideal S1024x2048 .fp8e4m3 := iblk m c 4 t
abbrev aB (c : Dev nD) (t : Fin cfg1.N) : Vec Ideal S1024x32 .bf16 := iblk m c 5 t

theorem run_lt (t : Fin cfg1.N) (s : Fin 9) : 9 * (t.val / 9) + s.val < cfg1.N := by
  have h := t.isLt
  have hN : cfg1.N = 756 := N_1
  omega

theorem acc_sum (c : Dev nD) (t : Fin cfg1.N) (h1 : t.val % 9 = 8) (i j : Fin 1024) :
    (outsAt0 m c t.val t.isLt).2 (ix2 i j) = ∑ s : Fin 9, ∑ k : Fin 2048, dyB m c ⟨9 * (t.val / 9) + s.val, run_lt t s⟩ (ix2 i k) * wsB m c ⟨9 * (t.val / 9) + s.val, run_lt t s⟩ (ix2 0 k) * wB m c ⟨9 * (t.val / 9) + s.val, run_lt t s⟩ (ix2 j k) := by
  have := Pipeline.eq_sum_fin_of_reset_step_apply_of_flush
    (fun n h (p : Fin 1024 × Fin 1024) => (outsAt0 m c n h).2 (ix2 p.1 p.2)) 9 (fun _ => 0) _
    (fun t h p => by rw [acc_A m c t h, pay2, pay1]) (fun t h p => by rw [acc_B m c t h, pay2]) t h1 (i, j)
  rw [zero_add] at this
  exact this
theorem pay3 (v20 : Vec Ideal S1024x32 .f32) (v34 : Vec Ideal S1024x32 .bf16) (v36 : Vec Ideal S1024x1024 .f32) (v37 : Vec Ideal S1024x1 .f32)
    (i j : Fin 1024) : k1_pay3 (F := Ideal) v20 v34 v36 v37 (ix2 i j) =
      v36 (ix2 i j) * v37 (ix2 i 0) + limbs (fun r : Fin 32 => v20 (ix2 i r) * two) (fun r => v34 (ix2 j r)) := by
  unfold limbs
  pointwise [k1_pay3]
  rw [sum96]
  have a1 : ∀ r : Fin 32, r.val < 32 := fun r => r.isLt
  have b1 : ∀ r : Fin 32, ¬(32 + r.val < 32) := fun r => by omega
  have b2 : ∀ r : Fin 32, 32 + r.val - 32 = r.val := fun r => by omega
  have c1 : ∀ r : Fin 32, ¬(64 + r.val < 32) := fun r => by omega
  have c2 : ∀ r : Fin 32, ¬(64 + r.val - 32 < 32) := fun r => by omega
  have c3 : ∀ r : Fin 32, 64 + r.val - 32 - 32 = r.val := fun r => by omega
  simp only [a1, b1, b2, c1, c2, c3, dite_true, dite_false]

end Cert.KernelIdeal.Val.Dx
-- ==== Proof.Value.DxArr.lean ====
/- The second launch: its result array, as a function of the arrays it is entered with. -/
module

public import proofs.«01_k».proof.Proof.Value.DxStep

@[expose] public section

set_option maxRecDepth 16384

noncomputable section
open Idealize.ShloMosaic Idealize.ShloMosaic.TcCoe

namespace Cert.KernelIdeal.Val.Dx
open Cert.KernelIdeal Cert.KernelIdeal.Gen Cert.KernelIdeal.Gen.Dx Cert.Val

variable (m : (c : Dev nD) → (b : Ref sig .tc) → Buf (Elt Ideal) ((c : Thread nD τ).loc b))

/-- The operand arrays, at their shapes. -/
abbrev dysA (c : Dev nD) : Vec Ideal S12288x1 .f32 := m c main_v10
abbrev wsA (c : Dev nD) : Vec Ideal S1x18432 .bf16 := m c main_v12
abbrev tA (c : Dev nD) : Vec Ideal S12288x32 .f32 := m c main_v9_0
abbrev dyA (c : Dev nD) : Vec Ideal S12288x18432 .fp8e5m2 := m c main_v3
abbrev wA (c : Dev nD) : Vec Ideal S7168x18432 .fp8e4m3 := m c main_arg4
abbrev aA (c : Dev nD) : Vec Ideal S7168x32 .bf16 := m c main_arg6

/-- The grid has 756 points. -/
theorem lt756 (t : Fin cfg1.N) : t.val < 756 := lt_of_lt_of_eq t.isLt N_1

/-- The place of each window's block at each point. -/
theorem idx : ∀ t : Fin cfg1.N, win1_0.index t = ![t.val / 63, 0] ∧ win1_1.index t = ![0, t.val % 9] ∧ win1_2.index t = ![t.val / 63, 0]
    ∧ win1_3.index t = ![t.val / 63, t.val % 9] ∧ win1_4.index t = ![t.val / 9 % 7, t.val % 9] ∧ win1_5.index t = ![t.val / 9 % 7, 0]
    ∧ win1_6.index t = ![t.val / 63, t.val / 9 % 7] := by
  decide +kernel

/-- A point's block of the gradient's scales, by entry of the array. -/
theorem dysB_eq (c : Dev nD) (t : Fin cfg1.N) (p : Fin 1024) :
    dysB m c t (ix2 p 0) = dysA m c (ix2 ⟨t.val / 63 * 1024 + p.val, by have := lt756 t; omega⟩ 0) := by
  blk_ext [iblk, V, idx t]
/-- A point's block of the weight's scales. -/
theorem wsB_eq (c : Dev nD) (t : Fin cfg1.N) (k : Fin 2048) :
    wsB m c t (ix2 0 k) = wsA m c (ix2 0 ⟨t.val % 9 * 2048 + k.val, by omega⟩) := by
  blk_ext [iblk, V, idx t]
/-- A point's block of the small activation gradient. -/
theorem tB_eq (c : Dev nD) (t : Fin cfg1.N) (p : Fin 1024) (r : Fin 32) :
    tB m c t (ix2 p r) = tA m c (ix2 ⟨t.val / 63 * 1024 + p.val, by have := lt756 t; omega⟩ r) := by
  blk_ext [iblk, V, idx t]
/-- A point's block of the gradient. -/
theorem dyB_eq (c : Dev nD) (t : Fin cfg1.N) (p : Fin 1024) (k : Fin 2048) :
    dyB m c t (ix2 p k) = dyA m c (ix2 ⟨t.val / 63 * 1024 + p.val, by have := lt756 t; omega⟩ ⟨t.val % 9 * 2048 + k.val, by omega⟩) := by
  blk_ext [iblk, V, idx t]
/-- A point's block of the weight. -/
theorem wB_eq (c : Dev nD) (t : Fin cfg1.N) (j : Fin 1024) (k : Fin 2048) :
    wB m c t (ix2 j k) = wA m c (ix2 ⟨t.val / 9 % 7 * 1024 + j.val, by omega⟩ ⟨t.val % 9 * 2048 + k.val, by omega⟩) := by
  blk_ext [iblk, V, idx t]
/-- A point's block of the first adapter. -/
theorem aB_eq (c : Dev nD) (t : Fin cfg1.N) (j : Fin 1024) (r : Fin 32) :
    aB m c t (ix2 j r) = aA m c (ix2 ⟨t.val / 9 % 7 * 1024 + j.val, by omega⟩ r) := by
  blk_ext [iblk, V, idx t]

/-- The gradient of the activation, by row of the flattened array and by feature. -/
def dxF (c : Dev nD) (i : Fin 12288) (j : Fin 7168) : EReal :=
  (∑ k : Fin 18432, dyA m c (ix2 i k) * wsA m c (ix2 0 k) * wA m c (ix2 j k)) * dysA m c (ix2 i 0)
    + limbs (fun r : Fin 32 => tA m c (ix2 i r) * two) (fun r => aA m c (ix2 j r))

/-- A run's partial products, added up over its nine blocks, are the products over the whole contracted axis. -/
theorem acc_fold (c : Dev nD) (t : Fin cfg1.N) (h1 : t.val % 9 = 8) (i j : Fin 1024) :
    (outsAt0 m c t.val t.isLt).2 (ix2 i j) = ∑ k : Fin 18432, dyA m c (ix2 ⟨t.val / 63 * 1024 + i.val, by have := lt756 t; omega⟩ k)
      * wsA m c (ix2 0 k) * wA m c (ix2 ⟨t.val / 9 % 7 * 1024 + j.val, by omega⟩ k) := by
  rw [acc_sum m c t h1 i j]
  refine Fin.sum_mul_add_congr fun s k hl => ?_
  rw [dyB_eq, wsB_eq, wB_eq]
  have hs := s.isLt
  have e1 : (9 * (t.val / 9) + s.val) / 63 = t.val / 63 := by omega
  have e2 : (9 * (t.val / 9) + s.val) % 9 = s.val := by omega
  have e3 : (9 * (t.val / 9) + s.val) / 9 % 7 = t.val / 9 % 7 := by omega
  simp only [e1, e2, e3]

/-- The array is the gradient of the activation: every flushed block holds its part of it. -/
theorem arr6 (c : Dev nD) : (dats m 0 c).arrAt 6 cfg1.N = fun y : S12288x7168.Idx => dxF m c (y 0) (y 1) := by
  refine (dats m 0 c).arrAt_eq_of_covers 6 _ (by decide +kernel) fun t hf y => ?_
  blk_simp
  rw [after0_6]
  have h9 : t.val % 9 = 8 := (flush1_6 t).mp hf
  obtain ⟨i, j, rfl⟩ : ∃ (i : Fin 1024) (j : Fin 1024), y = ix2 i j := ⟨y 0, y 1, eq_ix2 y⟩
  rw [out_C m c t h9]
  refine (pay3 (tB m c t) (aB m c t) _ (dysB m c t) i j).trans ?_
  have e := lt756 t
  refine Eq.trans ?_ (show dxF m c ⟨t.val / 63 * 1024 + i.val, by omega⟩ ⟨t.val / 9 % 7 * 1024 + j.val, by omega⟩ = _ from
    congrArg₂ (dxF m c) (Fin.ext (by blk_simp [idx t])) (Fin.ext (by blk_simp [idx t])))
  rw [acc_fold m c t h9, dysB_eq]
  simp only [tB_eq, aB_eq, dxF]

end Cert.KernelIdeal.Val.Dx
-- ==== Proof.Value.Finite.lean ====
/- What the precondition says: every entry of the tokens, the gradient, their scales and the two adapter matrices is a finite number. -/
module

public import proofs.«01_k».proof.Defs
public import proofs.«01_k».proof.Proof.Value.Spec
public import Idealize.ShloMosaic.Lib.Pointwise

@[expose] public section

set_option maxRecDepth 16384

noncomputable section
open Idealize.ShloMosaic Idealize.ShloMosaic.TcCoe

namespace Cert.Val

theorem code_e4m3 : ∀ b : Fin 256, (BitVec.ofFin b : BitVec 8).setWidth 32 &&& 127#32 ≠ 127#32 →
    ¬(((BitVec.ofFin b : BitVec 8).extractLsb' 3 4).toNat = 15 ∧ ((BitVec.ofFin b : BitVec 8).extractLsb' 0 3).toNat = 7) := by
  decide +kernel

theorem code_e5m2 : ∀ b : Fin 256, (BitVec.ofFin b : BitVec 8).setWidth 32 &&& 124#32 ≠ 124#32 →
    ¬((BitVec.ofFin b : BitVec 8).extractLsb' 2 5).toNat = 2 ^ 5 - 1 := by
  decide +kernel

/-- A code that is not all ones below the sign denotes a finite number. -/
theorem isReal_e4m3 (b : BitVec 8) (h : IntOp.cmpi CmpIPredicate.ne (IntOp.andi (BitVec.setWidth 32 b) 127#32) 127#32 = 1#1) :
    IsReal (Ideal.ofBits .fp8e4m3 b) := by
  have := code_e4m3 b.toFin (fun e => by
    have e' : BitVec.setWidth 32 b &&& 127#32 = 127#32 := e
    rw [show IntOp.andi (BitVec.setWidth 32 b) 127#32 = 127#32 from e'] at h
    exact absurd h (by decide))
  show IsReal (Ideal.e4m3fn b)
  unfold Ideal.e4m3fn
  refine (if_neg (c := (b.extractLsb' 3 4).toNat = 15 ∧ (b.extractLsb' 0 3).toNat = 7) this).symm ▸ ?_
  split_ifs <;> exact ⟨_, rfl⟩

/-- A code whose exponent is not all ones denotes a finite number. -/
theorem isReal_e5m2 (b : BitVec 8) (h : IntOp.cmpi CmpIPredicate.ne (IntOp.andi (BitVec.setWidth 32 b) 124#32) 124#32 = 1#1) :
    IsReal (Ideal.ofBits .fp8e5m2 b) := by
  have := code_e5m2 b.toFin (fun e => by
    have e' : BitVec.setWidth 32 b &&& 124#32 = 124#32 := e
    rw [show IntOp.andi (BitVec.setWidth 32 b) 124#32 = 124#32 from e'] at h
    exact absurd h (by decide))
  show IsReal (Ideal.ieee 5 2 b)
  unfold Ideal.ieee
  refine (if_neg (c := (b.extractLsb' 2 5).toNat = 2 ^ 5 - 1) this).symm ▸ ?_
  split_ifs <;> exact ⟨_, rfl⟩

/-- A number whose absolute value is below infinity is finite. -/
theorem isReal_of_lt (x : EReal) (i : EReal) (hi : i = ⊤) (h : BitVec.ofBool (decide (max x (-x) < i)) = 1#1) : IsReal x := by
  subst hi
  have h' : max x (-x) < ⊤ := by
    by_contra hn
    rw [decide_eq_false hn] at h
    exact absurd h (by decide)
  induction x using EReal.rec with
  | bot => simp at h'
  | top => simp at h'
  | coe r => exact ⟨r, rfl⟩

/-- The pattern of infinity, 32 bits. -/
theorem inf_f32 : Ideal.ofBits FTy.f32 0x7F800000#32 = ⊤ := by simp [Ideal.ofBits, Ideal.ieee]
/-- The pattern of infinity, 16 bits. -/
theorem inf_bf16 : Ideal.ofBits FTy.bf16 0x7F80#16 = ⊤ := by simp [Ideal.ofBits, Ideal.ieee]

/-- Every code of the tokens and of the gradient, every scale and every adapter weight denotes a finite number. -/
structure AllFinite (x : (⟨3, ![3, 4096, 7168]⟩ : Shape).Idx → BitVec 8) (xs : (⟨2, ![3, 4096]⟩ : Shape).Idx → EReal)
    (dy : (⟨3, ![3, 4096, 18432]⟩ : Shape).Idx → BitVec 8) (dys : (⟨2, ![3, 4096]⟩ : Shape).Idx → EReal)
    (a : (⟨2, ![7168, 32]⟩ : Shape).Idx → EReal) (b : (⟨2, ![32, 18432]⟩ : Shape).Idx → EReal) : Prop where
  x : ∀ q p k, IsReal (X x q p k)
  xs : ∀ q p, IsReal (xs (ix2 q p))
  dy : ∀ q p k, IsReal (DY dy q p k)
  dys : ∀ q p, IsReal (dys (ix2 q p))
  a : ∀ k r, IsReal (a (ix2 k r))
  b : ∀ r k, IsReal (b (ix2 r k))

/-- The precondition says that all these numbers are finite. -/
theorem pre [Cert.Pre_finite.Facts] (x : IVec Cert.Pre_finite.S3x4096x7168 8) (xs : FVec Ideal Cert.Pre_finite.S3x4096 .f32)
    (dy : IVec Cert.Pre_finite.S3x4096x18432 8) (dys : FVec Ideal Cert.Pre_finite.S3x4096 .f32) (w : FVec Ideal Cert.Pre_finite.S7168x18432 .fp8e4m3)
    (ws : FVec Ideal Cert.Pre_finite.S18432 .f32) (a : FVec Ideal Cert.Pre_finite.S7168x32 .bf16) (b : FVec Ideal Cert.Pre_finite.S32x18432 .bf16)
    (h : (Cert.Pre_finite.fn (F := Ideal) x xs dy dys w ws a b).1 = (fun _ => 1#1)
      ∧ (Cert.Pre_finite.fn (F := Ideal) x xs dy dys w ws a b).2.1 = (fun _ => 1#1)
      ∧ (Cert.Pre_finite.fn (F := Ideal) x xs dy dys w ws a b).2.2.1 = (fun _ => 1#1)
      ∧ (Cert.Pre_finite.fn (F := Ideal) x xs dy dys w ws a b).2.2.2.1 = (fun _ => 1#1)
      ∧ (Cert.Pre_finite.fn (F := Ideal) x xs dy dys w ws a b).2.2.2.2.1 = (fun _ => 1#1)
      ∧ (Cert.Pre_finite.fn (F := Ideal) x xs dy dys w ws a b).2.2.2.2.2 = (fun _ => 1#1)) : AllFinite x xs dy dys a b := by
  obtain ⟨h1, h2, h3, h4, h5, h6⟩ := h
  constructor
  · intro q p k
    have e := congrFun h1 (ix3 q p k)
    pointwise [Cert.Pre_finite.fn, Cert.Pre_finite.fn_part1] at e
    exact isReal_e4m3 _ e
  · intro q p
    have e := congrFun h2 (ix2 q p)
    pointwise [Cert.Pre_finite.fn, Cert.Pre_finite.fn_part1] at e
    exact isReal_of_lt _ _ inf_f32 e
  · intro q p k
    have e := congrFun h3 (ix3 q p k)
    pointwise [Cert.Pre_finite.fn, Cert.Pre_finite.fn_part1] at e
    exact isReal_e5m2 _ e
  · intro q p
    have e := congrFun h4 (ix2 q p)
    pointwise [Cert.Pre_finite.fn, Cert.Pre_finite.fn_part1] at e
    exact isReal_of_lt _ _ inf_f32 e
  · intro k r
    have e := congrFun h5 (ix2 k r)
    pointwise [Cert.Pre_finite.fn, Cert.Pre_finite.fn_part1] at e
    exact isReal_of_lt _ _ inf_bf16 e
  · intro r k
    have e := congrFun h6 (ix2 r k)
    pointwise [Cert.Pre_finite.fn, Cert.Pre_finite.fn_part1] at e
    exact isReal_of_lt _ _ inf_bf16 e

end Cert.Val
-- ==== Proof.Value.Result.lean ====
/- The five results of the two launches are the closed formulas, on finite arguments. -/
module

public import proofs.«01_k».proof.Proof.Value.Host
public import proofs.«01_k».proof.Proof.Value.SmallArr
public import proofs.«01_k».proof.Proof.Value.DxArr
public import proofs.«01_k».proof.Proof.Value.Finite

@[expose] public section

set_option maxRecDepth 16384

noncomputable section
open Idealize.ShloMosaic Idealize.ShloMosaic.TcCoe

namespace Cert.KernelIdeal.Val
open Cert.KernelIdeal Cert.KernelIdeal.Gen Cert.KernelIdeal.Gen.Whole Cert.Val

variable (m : (ℓ : Loc nD τ sig) → Buf (Elt Ideal) ℓ)

/-! ## Equal summands give equal sums, inside the formulas below -/

theorem sum_mul_congr {n : Nat} {f g : Fin n → EReal} {z : EReal} (h : ∀ k, f k = g k) : (∑ k, f k) * z = (∑ k, g k) * z := by
  rw [funext h]
theorem sum_mul_add_congr {n : Nat} {f g : Fin n → EReal} {z w : EReal} (h : ∀ k, f k = g k) : (∑ k, f k) * z + w = (∑ k, g k) * z + w := by
  rw [funext h]
theorem mul_ac (x y z : EReal) : x * y * z = x * (z * y) := by rw [mul_assoc, mul_comm y z]

/-- An entry of an array of numbers. -/
abbrev at2 {a b : Nat} (f : (⟨2, ![a, b]⟩ : Shape).Idx → EReal) (i : Fin a) (j : Fin b) : EReal := f (ix2 i j)

/-! ## What the first launch finds in its operand arrays -/

theorem a0_x (c : Dev nD) (i : Fin 12288) (k : Fin 7168) : Small.xA (E0 m) c (ix2 i k) = X (m ((c : Thread nD τ).loc main_arg0)) (seg i) (tok i) k := e0_x m c i k
theorem a0_dy (c : Dev nD) (i : Fin 12288) (k : Fin 18432) : Small.dyA (E0 m) c (ix2 i k) = DY (m ((c : Thread nD τ).loc main_arg2)) (seg i) (tok i) k := e0_dy m c i k
theorem a0_at (c : Dev nD) (r : Fin 32) (k : Fin 7168) : Small.atA (E0 m) c (ix2 r k) = ((m ((c : Thread nD τ).loc main_arg6)) : Vec Ideal S7168x32 .bf16) (ix2 k r) := e0_at m c r k
theorem a0_b (c : Dev nD) (r : Fin 32) (k : Fin 18432) : Small.bA (E0 m) c (ix2 r k) = ((m ((c : Thread nD τ).loc main_arg7)) : Vec Ideal S32x18432 .bf16) (ix2 r k) :=
  congrFun (e0_b m c) (ix2 r k)
theorem a0_dys (c : Dev nD) (s : Fin 48) (p : Fin 256) : Small.dysA (E0 m) c (ix3 s 0 p) = ((m ((c : Thread nD τ).loc main_arg3)) : Vec Ideal S3x4096 .f32)
    (ix2 ⟨s.val / 16, by omega⟩ ⟨s.val % 16 * 256 + p.val, by omega⟩) := e0_dys m c s p
theorem a0_xs (c : Dev nD) (s : Fin 48) (p : Fin 256) : Small.xsA (E0 m) c (ix3 s 0 p) = ((m ((c : Thread nD τ).loc main_arg1)) : Vec Ideal S3x4096 .f32)
    (ix2 ⟨s.val / 16, by omega⟩ ⟨s.val % 16 * 256 + p.val, by omega⟩) := e0_xs m c s p

/-- Row `i` of the flattened arrays, found by block of 256 and place in it, is token `tok i` of segment `seg i`. -/
theorem seg_blk (i : Fin 12288) : (⟨i.val / 256 / 16, by omega⟩ : Fin 3) = seg i := Fin.ext (by show i.val / 256 / 16 = i.val / 4096; omega)
theorem tok_blk (i : Fin 12288) : (⟨i.val / 256 % 16 * 256 + i.val % 256, by omega⟩ : Fin 4096) = tok i :=
  Fin.ext (by show i.val / 256 % 16 * 256 + i.val % 256 = i.val % 4096; omega)
theorem seg_row (q : Fin 3) (p : Fin 4096) : seg ⟨q.val * 4096 + p.val, by omega⟩ = q := Fin.ext (by show (q.val * 4096 + p.val) / 4096 = q.val; omega)
theorem tok_row (q : Fin 3) (p : Fin 4096) : tok ⟨q.val * 4096 + p.val, by omega⟩ = p := Fin.ext (by show (q.val * 4096 + p.val) % 4096 = p.val; omega)
theorem seg_pt (t : Fin 48) (p : Fin 256) (h) : seg ⟨t.val * 256 + p.val, h⟩ = ⟨t.val / 16, by omega⟩ :=
  Fin.ext (by show (t.val * 256 + p.val) / 4096 = t.val / 16; omega)
theorem tok_pt (t : Fin 48) (p : Fin 256) (h) : tok ⟨t.val * 256 + p.val, h⟩ = ⟨t.val % 16 * 256 + p.val, by omega⟩ :=
  Fin.ext (by show (t.val * 256 + p.val) % 4096 = t.val % 16 * 256 + p.val; omega)

/-- The first launch's small activation gradient is the formula's. -/
theorem tF_eq (c : Dev nD) (i : Fin 12288) (r : Fin 32) : Small.tF (E0 m) c i r = Cert.Val.T (m ((c : Thread nD τ).loc main_arg2)) (m ((c : Thread nD τ).loc main_arg3)) (m ((c : Thread nD τ).loc main_arg7)) (seg i) (tok i) r := by
  unfold Small.tF Cert.Val.T
  rw [a0_dys, seg_blk, tok_blk]
  refine sum_mul_congr fun k => ?_
  rw [a0_b, a0_dy, mul_comm]

/-- The first launch's small activation is the formula's. -/
theorem xaF_eq (c : Dev nD) (i : Fin 12288) (r : Fin 32) : Small.xaF (E0 m) c i r = XA (m ((c : Thread nD τ).loc main_arg0)) (m ((c : Thread nD τ).loc main_arg1)) (m ((c : Thread nD τ).loc main_arg6)) (seg i) (tok i) r := by
  unfold Small.xaF XA
  rw [a0_xs, seg_blk, tok_blk]
  refine sum_mul_congr fun k => ?_
  rw [a0_at, a0_x, mul_comm]

/-- The small activation gradient, and the small activation, of finite arguments are finite. -/
theorem T_real (c : Dev nD) (h : AllFinite (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))) (q : Fin 3) (p : Fin 4096) (r : Fin 32) : IsReal (Cert.Val.T (m ((c : Thread nD τ).loc main_arg2)) (m ((c : Thread nD τ).loc main_arg3)) (m ((c : Thread nD τ).loc main_arg7)) q p r) :=
  (IsReal.sum fun k => (h.dy q p k).mul (h.b r k)).mul (h.dys q p)
theorem XA_real (c : Dev nD) (h : AllFinite (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))) (q : Fin 3) (p : Fin 4096) (r : Fin 32) : IsReal (XA (m ((c : Thread nD τ).loc main_arg0)) (m ((c : Thread nD τ).loc main_arg1)) (m ((c : Thread nD τ).loc main_arg6)) q p r) :=
  (IsReal.sum fun k => (h.x q p k).mul (h.a k r)).mul (h.xs q p)

/-! ## The results -/

/-- Result 4: the small activation gradient. -/
theorem res_t (c : Dev nD) : Whole.V5 m c main_v15 = fun y : S3x4096x32.Idx => Cert.Val.T (m ((c : Thread nD τ).loc main_arg2)) (m ((c : Thread nD τ).loc main_arg3)) (m ((c : Thread nD τ).loc main_arg7)) (y 0) (y 1) (y 2) := by
  funext y
  obtain ⟨q, p, r, rfl⟩ : ∃ (q : Fin 3) (p : Fin 4096) (r : Fin 32), y = ix3 q p r := ⟨y 0, y 1, y 2, eq_ix3 y⟩
  refine (r_t m c q p r).trans ((congrFun (Small.arr6 (E0 m) c) _).trans ?_)
  exact (tF_eq m c ⟨q.val * 4096 + p.val, by omega⟩ r).trans (congrArg₂ (fun a b => Cert.Val.T (m ((c : Thread nD τ).loc main_arg2)) (m ((c : Thread nD τ).loc main_arg3)) (m ((c : Thread nD τ).loc main_arg7)) a b r) (seg_row q p) (tok_row q p))

/-- Result 5: the small activation. -/
theorem res_xa (c : Dev nD) : Whole.V5 m c main_v16 = fun y : S3x4096x32.Idx => XA (m ((c : Thread nD τ).loc main_arg0)) (m ((c : Thread nD τ).loc main_arg1)) (m ((c : Thread nD τ).loc main_arg6)) (y 0) (y 1) (y 2) := by
  funext y
  obtain ⟨q, p, r, rfl⟩ : ∃ (q : Fin 3) (p : Fin 4096) (r : Fin 32), y = ix3 q p r := ⟨y 0, y 1, y 2, eq_ix3 y⟩
  refine (r_xa m c q p r).trans ((congrFun (Small.arr7 (E0 m) c) _).trans ?_)
  exact (xaF_eq m c ⟨q.val * 4096 + p.val, by omega⟩ r).trans (congrArg₂ (fun a b => XA (m ((c : Thread nD τ).loc main_arg0)) (m ((c : Thread nD τ).loc main_arg1)) (m ((c : Thread nD τ).loc main_arg6)) a b r) (seg_row q p) (tok_row q p))

/-- The left operand of the first adapter's gradient, by segment and token. -/
theorem u_eq (c : Dev nD) (t : Fin cfg0.N) (i : Fin 32) (p : Fin 256) :
    Small.u (E0 m) c t i p = Cert.Val.T (m ((c : Thread nD τ).loc main_arg2)) (m ((c : Thread nD τ).loc main_arg3)) (m ((c : Thread nD τ).loc main_arg7)) ⟨t.val / 16, by have := Small.lt48 t; omega⟩ ⟨t.val % 16 * 256 + p.val, by omega⟩ i
      * ((m ((c : Thread nD τ).loc main_arg1)) : Vec Ideal S3x4096 .f32) (ix2 ⟨t.val / 16, by have := Small.lt48 t; omega⟩ ⟨t.val % 16 * 256 + p.val, by omega⟩) := by
  unfold Small.u
  rw [Small.tF_at, tF_eq, Small.xsB_eq, a0_xs, seg_pt ⟨t.val, Small.lt48 t⟩, tok_pt ⟨t.val, Small.lt48 t⟩]

/-- The left operand of the second adapter's gradient, by segment and token. -/
theorem w_eq (c : Dev nD) (t : Fin cfg0.N) (i : Fin 32) (p : Fin 256) :
    Small.w (E0 m) c t i p = XA (m ((c : Thread nD τ).loc main_arg0)) (m ((c : Thread nD τ).loc main_arg1)) (m ((c : Thread nD τ).loc main_arg6)) ⟨t.val / 16, by have := Small.lt48 t; omega⟩ ⟨t.val % 16 * 256 + p.val, by omega⟩ i
      * ((m ((c : Thread nD τ).loc main_arg3)) : Vec Ideal S3x4096 .f32) (ix2 ⟨t.val / 16, by have := Small.lt48 t; omega⟩ ⟨t.val % 16 * 256 + p.val, by omega⟩) := by
  unfold Small.w
  rw [Small.xaF_at, xaF_eq, Small.dysB_eq, a0_dys, seg_pt ⟨t.val, Small.lt48 t⟩, tok_pt ⟨t.val, Small.lt48 t⟩]

/-- The products the first adapter's gradient is made of, added up by point and row, are those added up by segment and token. -/
theorem sum_dA (c : Dev nD) (h : AllFinite (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))) (j : Fin 7168) (r : Fin 32) :
    (∑ s : Fin cfg0.N, limbs (Small.u (E0 m) c s r) (fun p => Small.xB (E0 m) c s (ix2 p j)))
      = ∑ q : Fin 3, ∑ p : Fin 4096, X (m ((c : Thread nD τ).loc main_arg0)) q p j * (at2 (m ((c : Thread nD τ).loc main_arg1)) q p * Cert.Val.T (m ((c : Thread nD τ).loc main_arg2)) (m ((c : Thread nD τ).loc main_arg3)) (m ((c : Thread nD τ).loc main_arg7)) q p r) := by
  have e : ∀ s : Fin cfg0.N, limbs (Small.u (E0 m) c s r) (fun p => Small.xB (E0 m) c s (ix2 p j))
      = ∑ p : Fin 256, Small.u (E0 m) c s r p * Small.xB (E0 m) c s (ix2 p j) := fun s =>
    limbs_eq _ fun p => by rw [u_eq]; exact (T_real m c h _ _ _).mul (h.xs _ _)
  rw [Finset.sum_congr rfl fun s _ => e s]
  refine Fin.sum_points_lanes_congr 16 fun t p ha hl => ?_
  rw [u_eq, Small.xB_eq, a0_x, seg_pt ⟨t.val, Small.lt48 t⟩, tok_pt ⟨t.val, Small.lt48 t⟩]
  exact (mul_comm _ _).trans (congrArg (fun z => X (m ((c : Thread nD τ).loc main_arg0)) ⟨t.val / 16, ha⟩ ⟨t.val % 16 * 256 + p.val, hl⟩ j * z) (mul_comm _ _))

/-- Likewise for the second adapter's gradient. -/
theorem sum_dB (c : Dev nD) (h : AllFinite (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))) (r : Fin 32) (j : Fin 18432) :
    (∑ s : Fin cfg0.N, limbs (Small.w (E0 m) c s r) (fun p => Small.dyB (E0 m) c s (ix2 p j)))
      = ∑ q : Fin 3, ∑ p : Fin 4096, XA (m ((c : Thread nD τ).loc main_arg0)) (m ((c : Thread nD τ).loc main_arg1)) (m ((c : Thread nD τ).loc main_arg6)) q p r * at2 (m ((c : Thread nD τ).loc main_arg3)) q p * DY (m ((c : Thread nD τ).loc main_arg2)) q p j := by
  have e : ∀ s : Fin cfg0.N, limbs (Small.w (E0 m) c s r) (fun p => Small.dyB (E0 m) c s (ix2 p j))
      = ∑ p : Fin 256, Small.w (E0 m) c s r p * Small.dyB (E0 m) c s (ix2 p j) := fun s =>
    limbs_eq _ fun p => by rw [w_eq]; exact (XA_real m c h _ _ _).mul (h.dys _ _)
  rw [Finset.sum_congr rfl fun s _ => e s]
  refine Fin.sum_points_lanes_congr 16 fun t p ha hl => ?_
  rw [w_eq, Small.dyB_eq, a0_dy, seg_pt ⟨t.val, Small.lt48 t⟩, tok_pt ⟨t.val, Small.lt48 t⟩]

/-- Result 2: the gradient of the first adapter. -/
theorem res_dA (c : Dev nD) (h : AllFinite (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))) :
    Whole.V5 m c main_v9_2 = fun y : S7168x32.Idx => DA (m ((c : Thread nD τ).loc main_arg0)) (m ((c : Thread nD τ).loc main_arg1)) (m ((c : Thread nD τ).loc main_arg2)) (m ((c : Thread nD τ).loc main_arg3)) (m ((c : Thread nD τ).loc main_arg7)) (y 0) (y 1) := by
  rw [r_dA, Small.arr8]
  funext y
  exact (congrArg (· * two) (sum_dA m c h (y 0) (y 1))).trans (mul_comm _ _)

/-- Result 3: the gradient of the second adapter. -/
theorem res_dB (c : Dev nD) (h : AllFinite (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))) :
    Whole.V5 m c main_v9_3 = fun y : S32x18432.Idx => DB (m ((c : Thread nD τ).loc main_arg0)) (m ((c : Thread nD τ).loc main_arg1)) (m ((c : Thread nD τ).loc main_arg2)) (m ((c : Thread nD τ).loc main_arg3)) (m ((c : Thread nD τ).loc main_arg6)) (y 0) (y 1) := by
  rw [r_dB, Small.arr9]
  funext y
  exact (congrArg (· * two) (sum_dB m c h (y 0) (y 1))).trans (mul_comm _ _)

/-! ## What the second launch finds in its operand arrays -/

theorem a1_dys (c : Dev nD) (i : Fin 12288) : Dx.dysA (E1 m) c (ix2 i 0) = ((m ((c : Thread nD τ).loc main_arg3)) : Vec Ideal S3x4096 .f32) (ix2 (seg i) (tok i)) := e1_dys m c i
theorem a1_ws (c : Dev nD) (k : Fin 18432) : Dx.wsA (E1 m) c (ix2 0 k) = ((m ((c : Thread nD τ).loc main_arg5)) : Vec Ideal S18432 .f32) (ix1 k) := e1_ws m c k
theorem a1_t (c : Dev nD) (i : Fin 12288) (r : Fin 32) : Dx.tA (E1 m) c (ix2 i r) = Cert.Val.T (m ((c : Thread nD τ).loc main_arg2)) (m ((c : Thread nD τ).loc main_arg3)) (m ((c : Thread nD τ).loc main_arg7)) (seg i) (tok i) r :=
  (congrFun (e1_t m c) (ix2 i r)).trans ((congrFun (Small.arr6 (E0 m) c) (ix2 i r)).trans (tF_eq m c i r))
theorem a1_dy (c : Dev nD) (i : Fin 12288) (k : Fin 18432) : Dx.dyA (E1 m) c (ix2 i k) = DY (m ((c : Thread nD τ).loc main_arg2)) (seg i) (tok i) k :=
  (congrFun (e1_dy m c) (ix2 i k)).trans (e0_dy m c i k)
theorem a1_w (c : Dev nD) (j : Fin 7168) (k : Fin 18432) : Dx.wA (E1 m) c (ix2 j k) = ((m ((c : Thread nD τ).loc main_arg4)) : Vec Ideal S7168x18432 .fp8e4m3) (ix2 j k) :=
  congrFun (e1_w m c) (ix2 j k)
theorem a1_a (c : Dev nD) (j : Fin 7168) (r : Fin 32) : Dx.aA (E1 m) c (ix2 j r) = ((m ((c : Thread nD τ).loc main_arg6)) : Vec Ideal S7168x32 .bf16) (ix2 j r) :=
  congrFun (e1_a m c) (ix2 j r)

/-- The second launch's array is the formula's. -/
theorem dxF_eq (c : Dev nD) (h : AllFinite (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))) (i : Fin 12288) (j : Fin 7168) :
    Dx.dxF (E1 m) c i j = DX (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (seg i) (tok i) j := by
  unfold Dx.dxF DX
  simp only [a1_dys, a1_ws, a1_t, a1_dy, a1_w, a1_a]
  rw [limbs_eq _ fun r => (T_real m c h _ _ _).mul isReal_two, sum_mul_two isReal_two (T_real m c h _ _) (h.a j)]
  exact sum_mul_add_congr fun k => mul_ac _ _ _

/-- Result 1: the gradient of the activation. -/
theorem res_dx (c : Dev nD) (h : AllFinite (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))) :
    Whole.V5 m c main_v14 = fun y : S3x4096x7168.Idx => DX (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (y 0) (y 1) (y 2) := by
  funext y
  obtain ⟨q, p, j, rfl⟩ : ∃ (q : Fin 3) (p : Fin 4096) (j : Fin 7168), y = ix3 q p j := ⟨y 0, y 1, y 2, eq_ix3 y⟩
  refine (r_dx m c q p j).trans ((congrFun (Dx.arr6 (E1 m) c) _).trans ?_)
  exact (dxF_eq m c h ⟨q.val * 4096 + p.val, by omega⟩ j).trans
    (congrArg₂ (fun a b => DX (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) a b j) (seg_row q p) (tok_row q p))

end Cert.KernelIdeal.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import Idealize.ShloMosaic.Adequacy
public import Idealize.ShloMosaic.Init
public import proofs.«01_k».proof.Proof.Gen.ReferenceIdeal.Value
public import proofs.«01_k».proof.Proof.Same
public import proofs.«01_k».proof.Proof.KernelIdeal.Run
public import proofs.«01_k».proof.Proof.Value.Ref
public import proofs.«01_k».proof.Proof.Value.Result

@[expose] public section

set_option maxRecDepth 16384

noncomputable section

namespace Cert.Proof

open Idealize.ShloMosaic Idealize.ShloMosaic.TcCoe Idealize.SL.Sem Cert.Kernel

/-- Of the same finite arguments, both programs end with the same five arrays. -/
theorem value_eq : Cert.algebraic_KernelIdeal_ReferenceIdeal_pre_finite := by
  intro m g m' g' hp hm
  have fin := fun c : Dev Cert.KernelIdeal.nD => Cert.Val.pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (hp c)
  refine ⟨fun c => Cert.KernelIdeal.Gen.Whole.V5 m c Cert.KernelIdeal.main_v14, fun c => Cert.KernelIdeal.Gen.Whole.V5 m c Cert.KernelIdeal.main_v9_2,
    fun c => Cert.KernelIdeal.Gen.Whole.V5 m c Cert.KernelIdeal.main_v9_3, fun c => Cert.KernelIdeal.Gen.Whole.V5 m c Cert.KernelIdeal.main_v15,
    fun c => Cert.KernelIdeal.Gen.Whole.V5 m c Cert.KernelIdeal.main_v16, ?_, ?_⟩
  · refine (θ_run Cert.KernelIdeal.defs _ _).mono (fun r h c => ⟨(h.1 c Cert.KernelIdeal.main_v14 (Cert.KernelIdeal.Gen.Whole.mem_uc _ (by decide))), (h.1 c Cert.KernelIdeal.main_v9_2 (Cert.KernelIdeal.Gen.Whole.mem_uc _ (by decide))), (h.1 c Cert.KernelIdeal.main_v9_3 (Cert.KernelIdeal.Gen.Whole.mem_uc _ (by decide))), (h.1 c Cert.KernelIdeal.main_v15 (Cert.KernelIdeal.Gen.Whole.mem_uc _ (by decide))), (h.1 c Cert.KernelIdeal.main_v16 (Cert.KernelIdeal.Gen.Whole.mem_uc _ (by decide))),
      (h.1 c Cert.KernelIdeal.main_arg0 (Cert.KernelIdeal.Gen.Whole.mem_uc _ (by decide))).trans (Cert.KernelIdeal.Gen.Whole.V5_kept m c _ (by decide) (by decide) (by decide) (by decide)),
      (h.1 c Cert.KernelIdeal.main_arg1 (Cert.KernelIdeal.Gen.Whole.mem_uc _ (by decide))).trans (Cert.KernelIdeal.Gen.Whole.V5_kept m c _ (by decide) (by decide) (by decide) (by decide)),
      (h.1 c Cert.KernelIdeal.main_arg2 (Cert.KernelIdeal.Gen.Whole.mem_uc _ (by decide))).trans (Cert.KernelIdeal.Gen.Whole.V5_kept m c _ (by decide) (by decide) (by decide) (by decide)),
      (h.1 c Cert.KernelIdeal.main_arg3 (Cert.KernelIdeal.Gen.Whole.mem_uc _ (by decide))).trans (Cert.KernelIdeal.Gen.Whole.V5_kept m c _ (by decide) (by decide) (by decide) (by decide)),
      (h.1 c Cert.KernelIdeal.main_arg4 (Cert.KernelIdeal.Gen.Whole.mem_uc _ (by decide))).trans (Cert.KernelIdeal.Gen.Whole.V5_kept m c _ (by decide) (by decide) (by decide) (by decide)),
      (h.1 c Cert.KernelIdeal.main_arg5 (Cert.KernelIdeal.Gen.Whole.mem_uc _ (by decide))).trans (Cert.KernelIdeal.Gen.Whole.V5_kept m c _ (by decide) (by decide) (by decide) (by decide)),
      (h.1 c Cert.KernelIdeal.main_arg6 (Cert.KernelIdeal.Gen.Whole.mem_uc _ (by decide))).trans (Cert.KernelIdeal.Gen.Whole.V5_kept m c _ (by decide) (by decide) (by decide) (by decide)),
      (h.1 c Cert.KernelIdeal.main_arg7 (Cert.KernelIdeal.Gen.Whole.mem_uc _ (by decide))).trans (Cert.KernelIdeal.Gen.Whole.V5_kept m c _ (by decide) (by decide) (by decide) (by decide))⟩) (Cert.KernelIdeal.Gen.Whole.run_all m g)
  · refine (θ_run Cert.ReferenceIdeal.defs _ _).mono (fun r h c => ⟨(h c).1.trans ((Cert.ReferenceIdeal.Val.arr8 m' c).trans (Eq.trans
        (funext fun y => congrFun (congrFun (congrFun (Cert.Val.DX_congr ((hm c).2.2.1) ((hm c).2.2.2.1) ((hm c).2.2.2.2.1) ((hm c).2.2.2.2.2.1) ((hm c).2.2.2.2.2.2.1) ((hm c).2.2.2.2.2.2.2)) (y 0)) (y 1)) (y 2))
        (Cert.KernelIdeal.Val.res_dx m c (fin c)).symm)),
      (h c).2.1.trans ((Cert.ReferenceIdeal.Val.arr9 m' c).trans (Eq.trans
        (funext fun y => congrFun (congrFun (Cert.Val.DA_congr ((hm c).1) ((hm c).2.1) ((hm c).2.2.1) ((hm c).2.2.2.1) ((hm c).2.2.2.2.2.2.2)) (y 0)) (y 1))
        (Cert.KernelIdeal.Val.res_dA m c (fin c)).symm)),
      (h c).2.2.1.trans ((Cert.ReferenceIdeal.Val.arr10 m' c).trans (Eq.trans
        (funext fun y => congrFun (congrFun (Cert.Val.DB_congr ((hm c).1) ((hm c).2.1) ((hm c).2.2.1) ((hm c).2.2.2.1) ((hm c).2.2.2.2.2.2.1)) (y 0)) (y 1))
        (Cert.KernelIdeal.Val.res_dB m c (fin c)).symm)),
      (h c).2.2.2.1.trans ((Cert.ReferenceIdeal.Val.arr11 m' c).trans (Eq.trans
        (funext fun y => congrFun (congrFun (congrFun (Cert.Val.T_congr ((hm c).2.2.1) ((hm c).2.2.2.1) ((hm c).2.2.2.2.2.2.2)) (y 0)) (y 1)) (y 2))
        (Cert.KernelIdeal.Val.res_t m c).symm)),
      (h c).2.2.2.2.1.trans ((Cert.ReferenceIdeal.Val.arr12 m' c).trans (Eq.trans
        (funext fun y => congrFun (congrFun (congrFun (Cert.Val.XA_congr ((hm c).1) ((hm c).2.1) ((hm c).2.2.2.2.2.2.1)) (y 0)) (y 1)) (y 2))
        (Cert.KernelIdeal.Val.res_xa m c).symm)),
      (h c).2.2.2.2.2⟩) (Cert.ReferenceIdeal.Value.run_blocks m' g')

/-- The claims, one by one: the three programs run and keep their arguments, and on finite arguments kernel and reference give the same five arrays. -/
theorem claim : Cert.Claim := ⟨Cert.Kernel.Gen.facts, Cert.KernelIdeal.Gen.facts, Cert.ReferenceIdeal.Gen.facts, Cert.Pre_finite.Gen.facts,
  kernel_frame,
  fun m g _ => Cert.KernelIdeal.Gen.Whole.frame m g,
  fun m g _ => Cert.KernelIdeal.Gen.Whole.frame m g,
  fun m g _ => Cert.ReferenceIdeal.Gen.frame m g,
  fun m g _ => Cert.ReferenceIdeal.Gen.frame m g,
  trivial,
  value_eq⟩

end Cert.Proof

end
